-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_events_in_order [hPre_events_in_order : Cert.Pre_events_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_events_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_events_in_order [hPre_events_in_order : Cert.Pre_events_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_events_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_events_in_order [hKernelIdeal : Cert.KernelIdeal.Facts] [hPre_events_in_order : Cert.Pre_events_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_events_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_events_in_order [hReferenceIdeal : Cert.ReferenceIdeal.Facts] [hPre_events_in_order : Cert.Pre_events_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_events_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_events_in_order [hKernelIdeal : Cert.KernelIdeal.Facts] [hReferenceIdeal : Cert.ReferenceIdeal.Facts] [hPre_events_in_order : Cert.Pre_events_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_events_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_events_in_order : Cert.Pre_events_in_order.Facts),
    quiescent_Kernel (hKernel := hKernel)
    ∧ quiescent_KernelIdeal (hKernelIdeal := hKernelIdeal)
    ∧ quiescent_KernelIdeal_pre_events_in_order (hKernelIdeal := hKernelIdeal) (hPre_events_in_order := hPre_events_in_order)
    ∧ quiescent_ReferenceIdeal (hReferenceIdeal := hReferenceIdeal)
    ∧ quiescent_ReferenceIdeal_pre_events_in_order (hReferenceIdeal := hReferenceIdeal) (hPre_events_in_order := hPre_events_in_order)
    ∧ preserves_Kernel_KernelIdeal
    ∧ algebraic_KernelIdeal_ReferenceIdeal_pre_events_in_order (hKernelIdeal := hKernelIdeal) (hReferenceIdeal := hReferenceIdeal) (hPre_events_in_order := hPre_events_in_order)
-- ==== Pre_events_in_order.lean ====
abbrev S32x2048 : Shape := ⟨2, ![32, 2048]⟩
abbrev S32x256 : Shape := ⟨2, ![32, 256]⟩
abbrev S256 : Shape := ⟨1, ![256]⟩
abbrev S257x256 : Shape := ⟨2, ![257, 256]⟩
abbrev S256x32 : Shape := ⟨2, ![256, 32]⟩
abbrev S32 : Shape := ⟨1, ![32]⟩
abbrev S_ : Shape := ⟨0, ![]⟩
abbrev S32x2047 : Shape := ⟨2, ![32, 2047]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  slices_S32x2048_S32x2047_0_0 : S32x2048.Slices ![0, 0] S32x2047
  slices_S32x2048_S32x2047_0_1 : S32x2048.Slices ![0, 1] S32x2047
  reducesTo_S32x2047_S_d0_1 : S32x2047.ReducesTo [0, 1] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg3 : FVec F S32x256 .f32) (main_v15 : IVec S_ 1) (main_v16 : IVec S_ 1) : IVec S_ 1 :=
  let main_v17 : IVec S_ 1 := andi main_v15 main_v16
  let main_cst_5 : FVec F S_ .f32 := constant S_ .f32 0x00000000#32
  let main_v18 : FVec F S32x256 .f32 := broadcastInDim S32x256 ![] bcast_S_S32x256 main_cst_5
  let main_v19 : IVec S32x256 1 := cmpf .oge main_arg3 main_v18
  let main_c_6 : IVec S_ 1 := constantI S_ 1 1#1
  let main_v20 : IVec S_ 1 := (fun x v => Host.reduce IntOp.andi x v reducesTo_S32x256_S_d0_1 h_S_) main_v19 main_c_6
  let main_v21 : IVec S_ 1 := andi main_v17 main_v20
  main_v21

def fn {F : FTy → Type} [FloatOps F] (main_arg0 : FVec F S32x2048 .f32) (main_arg1 : IVec S32x2048 32) (main_arg2 : IVec S32x2048 1) (main_arg3 : FVec F S32x256 .f32) (main_arg4 : FVec F S32x256 .f32) (main_arg5 : FVec F S256 .f32) (main_arg6 : FVec F S257x256 .f32) (main_arg7 : FVec F S256 .f32) (main_arg8 : FVec F S256x32 .f32) (main_arg9 : FVec F S32 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2047 .f32 := (extractStridedSlice S32x2047 ![0, 0] · slices_S32x2048_S32x2047_0_0) main_arg0
  let main_v5 : FVec F S32x2047 .f32 := (extractStridedSlice S32x2047 ![0, 1] · slices_S32x2048_S32x2047_0_1) main_arg0
  let main_v6 : IVec S32x2047 1 := cmpf .ole main_v4 main_v5
  let main_c_0 : IVec S_ 1 := constantI S_ 1 1#1
  let main_v7 : IVec S_ 1 := (fun x v => Host.reduce IntOp.andi x v reducesTo_S32x2047_S_d0_1 h_S_) main_v6 main_c_0
  let main_c_1 : IVec S_ 32 := constantI S_ 32 0#32
  let main_v8 : IVec S32x2048 32 := broadcastInDim S32x2048 ![] bcast_S_S32x2048 main_c_1
  let main_v9 : IVec S32x2048 1 := cmpi .sge main_arg1 main_v8
  let main_c_2 : IVec S_ 32 := constantI S_ 32 32#32
  let main_v10 : IVec S32x2048 32 := broadcastInDim S32x2048 ![] bcast_S_S32x2048 main_c_2
  let main_v11 : IVec S32x2048 1 := cmpi .slt main_arg1 main_v10
  let main_v12 : IVec S32x2048 1 := andi main_v9 main_v11
  let main_c_3 : IVec S_ 1 := constantI S_ 1 1#1
  let main_v13 : IVec S_ 1 := (fun x v => Host.reduce IntOp.andi x v reducesTo_S32x2048_S_d0_1 h_S_) main_v12 main_c_3
  let main_v14 : IVec S_ 1 := andi main_v3 main_v7
  let main_v15 : IVec S_ 1 := andi main_v14 main_v13
  let main_c_4 : IVec S_ 1 := constantI S_ 1 1#1
  let main_v16 : IVec S_ 1 := (fun x v => Host.reduce IntOp.andi x v reducesTo_S32x2048_S_d0_1 h_S_) main_arg2 main_c_4
  fn_part1 (F := F) main_arg3 main_v15 main_v16
-- ==== Kernel.lean ====
abbrev S32x2048 : Shape := ⟨2, ![32, 2048]⟩
abbrev S32x256 : Shape := ⟨2, ![32, 256]⟩
abbrev S256 : Shape := ⟨1, ![256]⟩
abbrev S257x256 : Shape := ⟨2, ![257, 256]⟩
abbrev S256x32 : Shape := ⟨2, ![256, 32]⟩
abbrev S32 : Shape := ⟨1, ![32]⟩
abbrev S32x1 : Shape := ⟨2, ![32, 1]⟩
abbrev S_ : Shape := ⟨0, ![]⟩
abbrev S32x16 : Shape := ⟨2, ![32, 16]⟩
abbrev S32x32 : Shape := ⟨2, ![32, 32]⟩
abbrev S32x256x128 : Shape := ⟨3, ![32, 256, 128]⟩
abbrev S2048 : Shape := ⟨1, ![2048]⟩
abbrev S256x128 : Shape := ⟨2, ![256, 128]⟩
abbrev S1x2048 : Shape := ⟨2, ![1, 2048]⟩
abbrev S1x256 : Shape := ⟨2, ![1, 256]⟩
abbrev S1x32 : Shape := ⟨2, ![1, 32]⟩
abbrev S16 : Shape := ⟨1, ![16]⟩
abbrev S1x256x128 : Shape := ⟨3, ![1, 256, 128]⟩
abbrev S8192x128 : Shape := ⟨2, ![8192, 128]⟩
abbrev S32x256x32 : Shape := ⟨3, ![32, 256, 32]⟩
abbrev S2048x128 : Shape := ⟨2, ![2048, 128]⟩
abbrev S8x256x32 : Shape := ⟨3, ![8, 256, 32]⟩
abbrev S2048x1 : Shape := ⟨2, ![2048, 1]⟩
abbrev S2048x32 : Shape := ⟨2, ![2048, 32]⟩
abbrev S256x256 : Shape := ⟨2, ![256, 256]⟩
abbrev S2048x256 : Shape := ⟨2, ![2048, 256]⟩

abbrev nBuf : Table → Nat
  | .hbm => 31
  | .local .tc .vmem => 12
  | .local .scVector .vmem => 5
  | _ => 0

abbrev bufTy : (tb : Table) → Fin (nBuf tb) → BufTy
  | .hbm, ⟨0, _⟩ => ⟨S32x2048, .f32⟩
  | .hbm, ⟨1, _⟩ => ⟨S32x2048, .i32⟩
  | .hbm, ⟨2, _⟩ => ⟨S32x2048, .i1⟩
  | .hbm, ⟨3, _⟩ => ⟨S32x256, .f32⟩
  | .hbm, ⟨4, _⟩ => ⟨S32x256, .f32⟩
  | .hbm, ⟨5, _⟩ => ⟨S256, .f32⟩
  | .hbm, ⟨6, _⟩ => ⟨S257x256, .f32⟩
  | .hbm, ⟨7, _⟩ => ⟨S256, .f32⟩
  | .hbm, ⟨8, _⟩ => ⟨S256x32, .f32⟩
  | .hbm, ⟨9, _⟩ => ⟨S32, .f32⟩
  | .hbm, ⟨10, _⟩ => ⟨S32x1, .f32⟩
  | .hbm, ⟨11, _⟩ => ⟨S32, .f32⟩
  | .hbm, ⟨12, _⟩ => ⟨S32x1, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x16, .f32⟩
  | .hbm, ⟨20, _⟩ => ⟨S32, .f32⟩
  | .hbm, ⟨21, _⟩ => ⟨S32x1, .f32⟩
  | .hbm, ⟨22, _⟩ => ⟨S32x16, .f32⟩
  | .hbm, ⟨23, _⟩ => ⟨S32x32, .f32⟩
  | .hbm, ⟨24, _⟩ => ⟨S32x256x128, .f32⟩
  | .hbm, ⟨25, _⟩ => ⟨S8192x128, .f32⟩
  | .hbm, ⟨26, _⟩ => ⟨S1x256, .f32⟩
  | .hbm, ⟨27, _⟩ => ⟨S1x256, .f32⟩
  | .hbm, ⟨28, _⟩ => ⟨S1x32, .f32⟩
  | .hbm, ⟨29, _⟩ => ⟨S32x256x32, .f32⟩
  | .hbm, ⟨30, _⟩ => ⟨S32x256x32, .f32⟩
  | .local .tc .vmem, ⟨0, _⟩ => ⟨S2048x128, .f32⟩
  | .local .tc .vmem, ⟨1, _⟩ => ⟨S2048x128, .f32⟩
  | .local .tc .vmem, ⟨2, _⟩ => ⟨S32x256, .f32⟩
  | .local .tc .vmem, ⟨3, _⟩ => ⟨S1x256, .f32⟩
  | .local .tc .vmem, ⟨4, _⟩ => ⟨S257x256, .f32⟩
  | .local .tc .vmem, ⟨5, _⟩ => ⟨S1x256, .f32⟩
  | .local .tc .vmem, ⟨6, _⟩ => ⟨S256x32, .f32⟩
  | .local .tc .vmem, ⟨7, _⟩ => ⟨S1x32, .f32⟩
  | .local .tc .vmem, ⟨8, _⟩ => ⟨S8x256x32, .f32⟩
  | .local .tc .vmem, ⟨9, _⟩ => ⟨S8x256x32, .f32⟩
  | .local .tc .vmem, ⟨10, _⟩ => ⟨S8x256x32, .f32⟩
  | .local .tc .vmem, ⟨11, _⟩ => ⟨S8x256x32, .f32⟩
  | .local .scVector .vmem, ⟨0, _⟩ => ⟨S2048, .f32⟩
  | .local .scVector .vmem, ⟨1, _⟩ => ⟨S2048, .i32⟩
  | .local .scVector .vmem, ⟨2, _⟩ => ⟨S256, .f32⟩
  | .local .scVector .vmem, ⟨3, _⟩ => ⟨S32, .f32⟩
  | .local .scVector .vmem, ⟨4, _⟩ => ⟨S256x128, .f32⟩
  | _, _ => ⟨S32x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_v12_scv : Ref sig .scVector := ⟨.hbm, 23, rfl⟩
abbrev main_v13_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc1_stg8_0 : Ref sig .tc := ⟨.vmem, 10, rfl⟩
abbrev cc1_stg8_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r3 : BitVec 32 := 0#32
  ![v1.toNat, 0]
@[reducible] def k0_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k0_off4 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c2_i32_2 : BitVec 32 := 2#32
  let v5 : BitVec 32 := Scalar.muli arg12 c2_i32_2
  let c16_i32 : BitVec 32 := 16#32
  let v6 : BitVec 32 := Scalar.muli v5 c16_i32
  let v8 : Index := Scalar.indexCast v6
  ![v8.toNat]

def k0_chk1 (v17 : IVec S16 32) : Prop :=
  (∀ a x, ((![v17] : Fin 1 → IVec S16 32) a x).toNat < S2048.size a)
theorem k0_idx1_inb : ∀ (v17 : IVec S16 32) (k0_hw1 : k0_chk1 v17), ∀ a x, ((![v17] : Fin 1 → IVec S16 32) a x).toNat < S2048.size a := fun v17 k0_hw1 => k0_hw1

def k0_chk2 (v19 : IVec S16 32) : Prop :=
  (∀ a x, ((![v19] : Fin 1 → IVec S16 32) a x).toNat < S2048.size a)
theorem k0_idx2_inb : ∀ (v19 : IVec S16 32) (k0_hw2 : k0_chk2 v19), ∀ a x, ((![v19] : Fin 1 → IVec S16 32) a x).toNat < S2048.size a := fun v19 k0_hw2 => k0_hw2

def k0_chk3 (v27 : IVec S16 32) : Prop :=
  (∀ a x, ((![v27] : Fin 1 → IVec S16 32) a x).toNat < S2048.size a)
theorem k0_idx3_inb : ∀ (v27 : IVec S16 32) (k0_hw3 : k0_chk3 v27), ∀ a x, ((![v27] : Fin 1 → IVec S16 32) a x).toNat < S2048.size a := fun v27 k0_hw3 => k0_hw3

def k0_chk4 (v29 : IVec S16 32) : Prop :=
  (∀ a x, ((![v29] : Fin 1 → IVec S16 32) a x).toNat < S2048.size a)
theorem k0_idx4_inb : ∀ (v29 : IVec S16 32) (k0_hw4 : k0_chk4 v29), ∀ a x, ((![v29] : Fin 1 → IVec S16 32) a x).toNat < S2048.size a := fun v29 k0_hw4 => k0_hw4

def k0_chk5 (v37 : IVec S16 32) : Prop :=
  (∀ a x, ((![v37] : Fin 1 → IVec S16 32) a x).toNat < S2048.size a)
theorem k0_idx5_inb : ∀ (v37 : IVec S16 32) (k0_hw5 : k0_chk5 v37), ∀ a x, ((![v37] : Fin 1 → IVec S16 32) a x).toNat < S2048.size a := fun v37 k0_hw5 => k0_hw5

def k0_chk6 (v39 : IVec S16 32) : Prop :=
  (∀ a x, ((![v39] : Fin 1 → IVec S16 32) a x).toNat < S2048.size a)
theorem k0_idx6_inb : ∀ (v39 : IVec S16 32) (k0_hw6 : k0_chk6 v39), ∀ a x, ((![v39] : Fin 1 → IVec S16 32) a x).toNat < S2048.size a := fun v39 k0_hw6 => k0_hw6

def k0_chk7 (v47 : IVec S16 32) : Prop :=
  (∀ a x, ((![v47] : Fin 1 → IVec S16 32) a x).toNat < S2048.size a)
theorem k0_idx7_inb : ∀ (v47 : IVec S16 32) (k0_hw7 : k0_chk7 v47), ∀ a x, ((![v47] : Fin 1 → IVec S16 32) a x).toNat < S2048.size a := fun v47 k0_hw7 => k0_hw7

def k0_chk8 (v49 : IVec S16 32) : Prop :=
  (∀ a x, ((![v49] : Fin 1 → IVec S16 32) a x).toNat < S2048.size a)
theorem k0_idx8_inb : ∀ (v49 : IVec S16 32) (k0_hw8 : k0_chk8 v49), ∀ a x, ((![v49] : Fin 1 → IVec S16 32) a x).toNat < S2048.size a := fun v49 k0_hw8 => k0_hw8

def k0_chk9 (v57 : IVec S16 32) : Prop :=
  (∀ a x, ((![v57] : Fin 1 → IVec S16 32) a x).toNat < S2048.size a)
theorem k0_idx9_inb : ∀ (v57 : IVec S16 32) (k0_hw9 : k0_chk9 v57), ∀ a x, ((![v57] : Fin 1 → IVec S16 32) a x).toNat < S2048.size a := fun v57 k0_hw9 => k0_hw9

def k0_chk10 (v59 : IVec S16 32) : Prop :=
  (∀ a x, ((![v59] : Fin 1 → IVec S16 32) a x).toNat < S2048.size a)
theorem k0_idx10_inb : ∀ (v59 : IVec S16 32) (k0_hw10 : k0_chk10 v59), ∀ a x, ((![v59] : Fin 1 → IVec S16 32) a x).toNat < S2048.size a := fun v59 k0_hw10 => k0_hw10

def k0_chk11 (v67 : IVec S16 32) : Prop :=
  (∀ a x, ((![v67] : Fin 1 → IVec S16 32) a x).toNat < S2048.size a)
theorem k0_idx11_inb : ∀ (v67 : IVec S16 32) (k0_hw11 : k0_chk11 v67), ∀ a x, ((![v67] : Fin 1 → IVec S16 32) a x).toNat < S2048.size a := fun v67 k0_hw11 => k0_hw11

def k0_chk12 (v69 : IVec S16 32) : Prop :=
  (∀ a x, ((![v69] : Fin 1 → IVec S16 32) a x).toNat < S2048.size a)
theorem k0_idx12_inb : ∀ (v69 : IVec S16 32) (k0_hw12 : k0_chk12 v69), ∀ a x, ((![v69] : Fin 1 → IVec S16 32) a x).toNat < S2048.size a := fun v69 k0_hw12 => k0_hw12

def k0_chk13 (v77 : IVec S16 32) : Prop :=
  (∀ a x, ((![v77] : Fin 1 → IVec S16 32) a x).toNat < S2048.size a)
theorem k0_idx13_inb : ∀ (v77 : IVec S16 32) (k0_hw13 : k0_chk13 v77), ∀ a x, ((![v77] : Fin 1 → IVec S16 32) a x).toNat < S2048.size a := fun v77 k0_hw13 => k0_hw13

def k0_chk14 (v79 : IVec S16 32) : Prop :=
  (∀ a x, ((![v79] : Fin 1 → IVec S16 32) a x).toNat < S2048.size a)
theorem k0_idx14_inb : ∀ (v79 : IVec S16 32) (k0_hw14 : k0_chk14 v79), ∀ a x, ((![v79] : Fin 1 → IVec S16 32) a x).toNat < S2048.size a := fun v79 k0_hw14 => k0_hw14

def k0_chk15 (v87 : IVec S16 32) : Prop :=
  (∀ a x, ((![v87] : Fin 1 → IVec S16 32) a x).toNat < S2048.size a)
theorem k0_idx15_inb : ∀ (v87 : IVec S16 32) (k0_hw15 : k0_chk15 v87), ∀ a x, ((![v87] : Fin 1 → IVec S16 32) a x).toNat < S2048.size a := fun v87 k0_hw15 => k0_hw15

def k0_chk16 (v89 : IVec S16 32) : Prop :=
  (∀ a x, ((![v89] : Fin 1 → IVec S16 32) a x).toNat < S2048.size a)
theorem k0_idx16_inb : ∀ (v89 : IVec S16 32) (k0_hw16 : k0_chk16 v89), ∀ a x, ((![v89] : Fin 1 → IVec S16 32) a x).toNat < S2048.size a := fun v89 k0_hw16 => k0_hw16

def k0_chk17 (v97 : IVec S16 32) : Prop :=
  (∀ a x, ((![v97] : Fin 1 → IVec S16 32) a x).toNat < S2048.size a)
theorem k0_idx17_inb : ∀ (v97 : IVec S16 32) (k0_hw17 : k0_chk17 v97), ∀ a x, ((![v97] : Fin 1 → IVec S16 32) a x).toNat < S2048.size a := fun v97 k0_hw17 => k0_hw17

def k0_chk18 (v99 : IVec S16 32) : Prop :=
  (∀ a x, ((![v99] : Fin 1 → IVec S16 32) a x).toNat < S2048.size a)
theorem k0_idx18_inb : ∀ (v99 : IVec S16 32) (k0_hw18 : k0_chk18 v99), ∀ a x, ((![v99] : Fin 1 → IVec S16 32) a x).toNat < S2048.size a := fun v99 k0_hw18 => k0_hw18

def k0_chk19 (v107 : IVec S16 32) : Prop :=
  (∀ a x, ((![v107] : Fin 1 → IVec S16 32) a x).toNat < S2048.size a)
theorem k0_idx19_inb : ∀ (v107 : IVec S16 32) (k0_hw19 : k0_chk19 v107), ∀ a x, ((![v107] : Fin 1 → IVec S16 32) a x).toNat < S2048.size a := fun v107 k0_hw19 => k0_hw19

def k0_chk20 (v109 : IVec S16 32) : Prop :=
  (∀ a x, ((![v109] : Fin 1 → IVec S16 32) a x).toNat < S2048.size a)
theorem k0_idx20_inb : ∀ (v109 : IVec S16 32) (k0_hw20 : k0_chk20 v109), ∀ a x, ((![v109] : Fin 1 → IVec S16 32) a x).toNat < S2048.size a := fun v109 k0_hw20 => k0_hw20

def k0_chk21 (v117 : IVec S16 32) : Prop :=
  (∀ a x, ((![v117] : Fin 1 → IVec S16 32) a x).toNat < S2048.size a)
theorem k0_idx21_inb : ∀ (v117 : IVec S16 32) (k0_hw21 : k0_chk21 v117), ∀ a x, ((![v117] : Fin 1 → IVec S16 32) a x).toNat < S2048.size a := fun v117 k0_hw21 => k0_hw21

def k0_chk22 (v119 : IVec S16 32) : Prop :=
  (∀ a x, ((![v119] : Fin 1 → IVec S16 32) a x).toNat < S2048.size a)
theorem k0_idx22_inb : ∀ (v119 : IVec S16 32) (k0_hw22 : k0_chk22 v119), ∀ a x, ((![v119] : Fin 1 → IVec S16 32) a x).toNat < S2048.size a := fun v119 k0_hw22 => k0_hw22

def k0_chk23 (v123 : IVec S16 32) : Prop :=
  (∀ a x, ((![v123] : Fin 1 → IVec S16 32) a x).toNat < S2048.size a) ∧
  (∀ a x, ((![v123] : Fin 1 → IVec S16 32) a x).toNat < S2048.size a)
theorem k0_idx23_inb : ∀ (v123 : IVec S16 32) (k0_hw23 : k0_chk23 v123), ∀ a x, ((![v123] : Fin 1 → IVec S16 32) a x).toNat < S2048.size a := fun v123 k0_hw23 => k0_hw23.1
theorem k0_idx24_inb : ∀ (v123 : IVec S16 32) (k0_hw23 : k0_chk23 v123), ∀ a x, ((![v123] : Fin 1 → IVec S16 32) a x).toNat < S2048.size a := fun v123 k0_hw23 => k0_hw23.2
def k0_off5 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c2_i32_2 : BitVec 32 := 2#32
  let v5 : BitVec 32 := Scalar.muli arg12 c2_i32_2
  let c16_i32 : BitVec 32 := 16#32
  let v6 : BitVec 32 := Scalar.muli v5 c16_i32
  let c16_i32_3 : BitVec 32 := 16#32
  let v7 : BitVec 32 := Scalar.addi v6 c16_i32_3
  let v128 : Index := Scalar.indexCast v7
  ![v128.toNat]

def k0_chk24 (v137 : IVec S16 32) : Prop :=
  (∀ a x, ((![v137] : Fin 1 → IVec S16 32) a x).toNat < S2048.size a)
theorem k0_idx25_inb : ∀ (v137 : IVec S16 32) (k0_hw24 : k0_chk24 v137), ∀ a x, ((![v137] : Fin 1 → IVec S16 32) a x).toNat < S2048.size a := fun v137 k0_hw24 => k0_hw24

def k0_chk25 (v139 : IVec S16 32) : Prop :=
  (∀ a x, ((![v139] : Fin 1 → IVec S16 32) a x).toNat < S2048.size a)
theorem k0_idx26_inb : ∀ (v139 : IVec S16 32) (k0_hw25 : k0_chk25 v139), ∀ a x, ((![v139] : Fin 1 → IVec S16 32) a x).toNat < S2048.size a := fun v139 k0_hw25 => k0_hw25

def k0_chk26 (v147 : IVec S16 32) : Prop :=
  (∀ a x, ((![v147] : Fin 1 → IVec S16 32) a x).toNat < S2048.size a)
theorem k0_idx27_inb : ∀ (v147 : IVec S16 32) (k0_hw26 : k0_chk26 v147), ∀ a x, ((![v147] : Fin 1 → IVec S16 32) a x).toNat < S2048.size a := fun v147 k0_hw26 => k0_hw26

def k0_chk27 (v149 : IVec S16 32) : Prop :=
  (∀ a x, ((![v149] : Fin 1 → IVec S16 32) a x).toNat < S2048.size a)
theorem k0_idx28_inb : ∀ (v149 : IVec S16 32) (k0_hw27 : k0_chk27 v149), ∀ a x, ((![v149] : Fin 1 → IVec S16 32) a x).toNat < S2048.size a := fun v149 k0_hw27 => k0_hw27

def k0_chk28 (v157 : IVec S16 32) : Prop :=
  (∀ a x, ((![v157] : Fin 1 → IVec S16 32) a x).toNat < S2048.size a)
theorem k0_idx29_inb : ∀ (v157 : IVec S16 32) (k0_hw28 : k0_chk28 v157), ∀ a x, ((![v157] : Fin 1 → IVec S16 32) a x).toNat < S2048.size a := fun v157 k0_hw28 => k0_hw28

def k0_chk29 (v159 : IVec S16 32) : Prop :=
  (∀ a x, ((![v159] : Fin 1 → IVec S16 32) a x).toNat < S2048.size a)
theorem k0_idx30_inb : ∀ (v159 : IVec S16 32) (k0_hw29 : k0_chk29 v159), ∀ a x, ((![v159] : Fin 1 → IVec S16 32) a x).toNat < S2048.size a := fun v159 k0_hw29 => k0_hw29

def k0_chk30 (v167 : IVec S16 32) : Prop :=
  (∀ a x, ((![v167] : Fin 1 → IVec S16 32) a x).toNat < S2048.size a)
theorem k0_idx31_inb : ∀ (v167 : IVec S16 32) (k0_hw30 : k0_chk30 v167), ∀ a x, ((![v167] : Fin 1 → IVec S16 32) a x).toNat < S2048.size a := fun v167 k0_hw30 => k0_hw30

def k0_chk31 (v169 : IVec S16 32) : Prop :=
  (∀ a x, ((![v169] : Fin 1 → IVec S16 32) a x).toNat < S2048.size a)
theorem k0_idx32_inb : ∀ (v169 : IVec S16 32) (k0_hw31 : k0_chk31 v169), ∀ a x, ((![v169] : Fin 1 → IVec S16 32) a x).toNat < S2048.size a := fun v169 k0_hw31 => k0_hw31

def k0_chk32 (v177 : IVec S16 32) : Prop :=
  (∀ a x, ((![v177] : Fin 1 → IVec S16 32) a x).toNat < S2048.size a)
theorem k0_idx33_inb : ∀ (v177 : IVec S16 32) (k0_hw32 : k0_chk32 v177), ∀ a x, ((![v177] : Fin 1 → IVec S16 32) a x).toNat < S2048.size a := fun v177 k0_hw32 => k0_hw32

def k0_chk33 (v179 : IVec S16 32) : Prop :=
  (∀ a x, ((![v179] : Fin 1 → IVec S16 32) a x).toNat < S2048.size a)
theorem k0_idx34_inb : ∀ (v179 : IVec S16 32) (k0_hw33 : k0_chk33 v179), ∀ a x, ((![v179] : Fin 1 → IVec S16 32) a x).toNat < S2048.size a := fun v179 k0_hw33 => k0_hw33

def k0_chk34 (v187 : IVec S16 32) : Prop :=
  (∀ a x, ((![v187] : Fin 1 → IVec S16 32) a x).toNat < S2048.size a)
theorem k0_idx35_inb : ∀ (v187 : IVec S16 32) (k0_hw34 : k0_chk34 v187), ∀ a x, ((![v187] : Fin 1 → IVec S16 32) a x).toNat < S2048.size a := fun v187 k0_hw34 => k0_hw34

def k0_chk35 (v189 : IVec S16 32) : Prop :=
  (∀ a x, ((![v189] : Fin 1 → IVec S16 32) a x).toNat < S2048.size a)
theorem k0_idx36_inb : ∀ (v189 : IVec S16 32) (k0_hw35 : k0_chk35 v189), ∀ a x, ((![v189] : Fin 1 → IVec S16 32) a x).toNat < S2048.size a := fun v189 k0_hw35 => k0_hw35

def k0_chk36 (v197 : IVec S16 32) : Prop :=
  (∀ a x, ((![v197] : Fin 1 → IVec S16 32) a x).toNat < S2048.size a)
theorem k0_idx37_inb : ∀ (v197 : IVec S16 32) (k0_hw36 : k0_chk36 v197), ∀ a x, ((![v197] : Fin 1 → IVec S16 32) a x).toNat < S2048.size a := fun v197 k0_hw36 => k0_hw36

def k0_chk37 (v199 : IVec S16 32) : Prop :=
  (∀ a x, ((![v199] : Fin 1 → IVec S16 32) a x).toNat < S2048.size a)
theorem k0_idx38_inb : ∀ (v199 : IVec S16 32) (k0_hw37 : k0_chk37 v199), ∀ a x, ((![v199] : Fin 1 → IVec S16 32) a x).toNat < S2048.size a := fun v199 k0_hw37 => k0_hw37

def k0_chk38 (v207 : IVec S16 32) : Prop :=
  (∀ a x, ((![v207] : Fin 1 → IVec S16 32) a x).toNat < S2048.size a)
theorem k0_idx39_inb : ∀ (v207 : IVec S16 32) (k0_hw38 : k0_chk38 v207), ∀ a x, ((![v207] : Fin 1 → IVec S16 32) a x).toNat < S2048.size a := fun v207 k0_hw38 => k0_hw38

def k0_chk39 (v209 : IVec S16 32) : Prop :=
  (∀ a x, ((![v209] : Fin 1 → IVec S16 32) a x).toNat < S2048.size a)
theorem k0_idx40_inb : ∀ (v209 : IVec S16 32) (k0_hw39 : k0_chk39 v209), ∀ a x, ((![v209] : Fin 1 → IVec S16 32) a x).toNat < S2048.size a := fun v209 k0_hw39 => k0_hw39

def k0_chk40 (v217 : IVec S16 32) : Prop :=
  (∀ a x, ((![v217] : Fin 1 → IVec S16 32) a x).toNat < S2048.size a)
theorem k0_idx41_inb : ∀ (v217 : IVec S16 32) (k0_hw40 : k0_chk40 v217), ∀ a x, ((![v217] : Fin 1 → IVec S16 32) a x).toNat < S2048.size a := fun v217 k0_hw40 => k0_hw40

def k0_chk41 (v219 : IVec S16 32) : Prop :=
  (∀ a x, ((![v219] : Fin 1 → IVec S16 32) a x).toNat < S2048.size a)
theorem k0_idx42_inb : ∀ (v219 : IVec S16 32) (k0_hw41 : k0_chk41 v219), ∀ a x, ((![v219] : Fin 1 → IVec S16 32) a x).toNat < S2048.size a := fun v219 k0_hw41 => k0_hw41

def k0_chk42 (v227 : IVec S16 32) : Prop :=
  (∀ a x, ((![v227] : Fin 1 → IVec S16 32) a x).toNat < S2048.size a)
theorem k0_idx43_inb : ∀ (v227 : IVec S16 32) (k0_hw42 : k0_chk42 v227), ∀ a x, ((![v227] : Fin 1 → IVec S16 32) a x).toNat < S2048.size a := fun v227 k0_hw42 => k0_hw42

def k0_chk43 (v229 : IVec S16 32) : Prop :=
  (∀ a x, ((![v229] : Fin 1 → IVec S16 32) a x).toNat < S2048.size a)
theorem k0_idx44_inb : ∀ (v229 : IVec S16 32) (k0_hw43 : k0_chk43 v229), ∀ a x, ((![v229] : Fin 1 → IVec S16 32) a x).toNat < S2048.size a := fun v229 k0_hw43 => k0_hw43

def k0_chk44 (v237 : IVec S16 32) : Prop :=
  (∀ a x, ((![v237] : Fin 1 → IVec S16 32) a x).toNat < S2048.size a)
theorem k0_idx45_inb : ∀ (v237 : IVec S16 32) (k0_hw44 : k0_chk44 v237), ∀ a x, ((![v237] : Fin 1 → IVec S16 32) a x).toNat < S2048.size a := fun v237 k0_hw44 => k0_hw44

def k0_chk45 (v239 : IVec S16 32) : Prop :=
  (∀ a x, ((![v239] : Fin 1 → IVec S16 32) a x).toNat < S2048.size a)
theorem k0_idx46_inb : ∀ (v239 : IVec S16 32) (k0_hw45 : k0_chk45 v239), ∀ a x, ((![v239] : Fin 1 → IVec S16 32) a x).toNat < S2048.size a := fun v239 k0_hw45 => k0_hw45

def k0_chk46 (v243 : IVec S16 32) : Prop :=
  (∀ a x, ((![v243] : Fin 1 → IVec S16 32) a x).toNat < S2048.size a) ∧
  (∀ a x, ((![v243] : Fin 1 → IVec S16 32) a x).toNat < S2048.size a)
theorem k0_idx47_inb : ∀ (v243 : IVec S16 32) (k0_hw46 : k0_chk46 v243), ∀ a x, ((![v243] : Fin 1 → IVec S16 32) a x).toNat < S2048.size a := fun v243 k0_hw46 => k0_hw46.1
theorem k0_idx48_inb : ∀ (v243 : IVec S16 32) (k0_hw46 : k0_chk46 v243), ∀ a x, ((![v243] : Fin 1 → IVec S16 32) a x).toNat < S2048.size a := fun v243 k0_hw46 => k0_hw46.2
@[reducible] def k0_t2_loop (v254 : BitVec 32) : Scf.Loop 32 :=
  let c0_i32_48 : BitVec 32 := 0#32
  let c3_i32 : BitVec 32 := 3#32
  let v255 : BitVec 32 := Scalar.addi v254 c3_i32
  let c2_i32_46 : BitVec 32 := 2#32
  let v256 : BitVec 32 := Scalar.shrsi v255 c2_i32_46
  let v258 : BitVec 32 := Scalar.subi v256 c0_i32_48
  let c1_i32_49 : BitVec 32 := 1#32
  let v260 : BitVec 32 := Scalar.divsi v258 c1_i32_49
  let v261 : BitVec 32 := Scalar.muli v260 c1_i32_49
  let v262 : BitVec 32 := Scalar.addi c0_i32_48 v261
  let c1_i32_50 : BitVec 32 := 1#32
  ⟨c0_i32_48, v262, c1_i32_50⟩

def k0_chk48 (v321 : IVec S16 32) : Prop :=
  (∀ a x, ((![v321] : Fin 1 → IVec S16 32) a x).toNat < S2048.size a)
theorem k0_idx49_inb : ∀ (v321 : IVec S16 32) (k0_hw48 : k0_chk48 v321), ∀ a x, ((![v321] : Fin 1 → IVec S16 32) a x).toNat < S2048.size a := fun v321 k0_hw48 => k0_hw48

def k0_chk49 (v336 : IVec S16 32) : Prop :=
  (∀ a x, ((![v336] : Fin 1 → IVec S16 32) a x).toNat < S2048.size a)
theorem k0_idx50_inb : ∀ (v336 : IVec S16 32) (k0_hw49 : k0_chk49 v336), ∀ a x, ((![v336] : Fin 1 → IVec S16 32) a x).toNat < S2048.size a := fun v336 k0_hw49 => k0_hw49

def k0_chk50 (v351 : IVec S16 32) : Prop :=
  (∀ a x, ((![v351] : Fin 1 → IVec S16 32) a x).toNat < S2048.size a)
theorem k0_idx51_inb : ∀ (v351 : IVec S16 32) (k0_hw50 : k0_chk50 v351), ∀ a x, ((![v351] : Fin 1 → IVec S16 32) a x).toNat < S2048.size a := fun v351 k0_hw50 => k0_hw50

def k0_chk51 (v366 : IVec S16 32) : Prop :=
  (∀ a x, ((![v366] : Fin 1 → IVec S16 32) a x).toNat < S2048.size a)
theorem k0_idx52_inb : ∀ (v366 : IVec S16 32) (k0_hw51 : k0_chk51 v366), ∀ a x, ((![v366] : Fin 1 → IVec S16 32) a x).toNat < S2048.size a := fun v366 k0_hw51 => k0_hw51
@[reducible] def k0_t3_loop (v254 : BitVec 32) : Scf.Loop 32 :=
  let c0_i32_48 : BitVec 32 := 0#32
  let c3_i32 : BitVec 32 := 3#32
  let v255 : BitVec 32 := Scalar.addi v254 c3_i32
  let c2_i32_46 : BitVec 32 := 2#32
  let v256 : BitVec 32 := Scalar.shrsi v255 c2_i32_46
  let v258 : BitVec 32 := Scalar.subi v256 c0_i32_48
  let c1_i32_49 : BitVec 32 := 1#32
  let v260 : BitVec 32 := Scalar.divsi v258 c1_i32_49
  let v261 : BitVec 32 := Scalar.muli v260 c1_i32_49
  let v262 : BitVec 32 := Scalar.addi c0_i32_48 v261
  let v259 : BitVec 32 := Scalar.addi c0_i32_48 v258
  let c1_i32_51 : BitVec 32 := 1#32
  ⟨v262, v259, c1_i32_51⟩

def k0_chk47 (v254 : BitVec 32) : Prop :=
  ((k0_t2_loop v254).OK) ∧
  ((k0_t3_loop v254).OK)
theorem k0_t2_ok : ∀ (v254 : BitVec 32) (k0_hw47 : k0_chk47 v254), (k0_t2_loop v254).OK := fun v254 k0_hw47 => k0_hw47.1
theorem k0_t3_ok : ∀ (v254 : BitVec 32) (k0_hw47 : k0_chk47 v254), (k0_t3_loop v254).OK := fun v254 k0_hw47 => k0_hw47.2

def k0_chk52 (v321 : IVec S16 32) : Prop :=
  (∀ a x, ((![v321] : Fin 1 → IVec S16 32) a x).toNat < S2048.size a)
theorem k0_idx53_inb : ∀ (v321 : IVec S16 32) (k0_hw52 : k0_chk52 v321), ∀ a x, ((![v321] : Fin 1 → IVec S16 32) a x).toNat < S2048.size a := fun v321 k0_hw52 => k0_hw52

def k0_chk53 (v336 : IVec S16 32) : Prop :=
  (∀ a x, ((![v336] : Fin 1 → IVec S16 32) a x).toNat < S2048.size a)
theorem k0_idx54_inb : ∀ (v336 : IVec S16 32) (k0_hw53 : k0_chk53 v336), ∀ a x, ((![v336] : Fin 1 → IVec S16 32) a x).toNat < S2048.size a := fun v336 k0_hw53 => k0_hw53

def k0_chk54 (v351 : IVec S16 32) : Prop :=
  (∀ a x, ((![v351] : Fin 1 → IVec S16 32) a x).toNat < S2048.size a)
theorem k0_idx55_inb : ∀ (v351 : IVec S16 32) (k0_hw54 : k0_chk54 v351), ∀ a x, ((![v351] : Fin 1 → IVec S16 32) a x).toNat < S2048.size a := fun v351 k0_hw54 => k0_hw54

def k0_chk55 (v366 : IVec S16 32) : Prop :=
  (∀ a x, ((![v366] : Fin 1 → IVec S16 32) a x).toNat < S2048.size a)
theorem k0_idx56_inb : ∀ (v366 : IVec S16 32) (k0_hw55 : k0_chk55 v366), ∀ a x, ((![v366] : Fin 1 → IVec S16 32) a x).toNat < S2048.size a := fun v366 k0_hw55 => k0_hw55

def k0_chk56 (v267 : IVec S16 32) (v268 : IVec S16 32) : Prop :=
  (∀ a x, ((![v267, v268] : Fin 2 → IVec S16 32) a x).toNat < S256x128.size a)
theorem k0_idx57_inb : ∀ (v267 : IVec S16 32) (v268 : IVec S16 32) (k0_hw56 : k0_chk56 v267 v268), ∀ a x, ((![v267, v268] : Fin 2 → IVec S16 32) a x).toNat < S256x128.size a := fun v267 v268 k0_hw56 => k0_hw56

def k0_chk57 (v267 : IVec S16 32) (v269 : IVec S16 32) : Prop :=
  (∀ a x, ((![v267, v269] : Fin 2 → IVec S16 32) a x).toNat < S256x128.size a)
theorem k0_idx58_inb : ∀ (v267 : IVec S16 32) (v269 : IVec S16 32) (k0_hw57 : k0_chk57 v267 v269), ∀ a x, ((![v267, v269] : Fin 2 → IVec S16 32) a x).toNat < S256x128.size a := fun v267 v269 k0_hw57 => k0_hw57

def k0_chk58 (v267 : IVec S16 32) (v271 : IVec S16 32) : Prop :=
  (∀ a x, ((![v267, v271] : Fin 2 → IVec S16 32) a x).toNat < S256x128.size a)
theorem k0_idx59_inb : ∀ (v267 : IVec S16 32) (v271 : IVec S16 32) (k0_hw58 : k0_chk58 v267 v271), ∀ a x, ((![v267, v271] : Fin 2 → IVec S16 32) a x).toNat < S256x128.size a := fun v267 v271 k0_hw58 => k0_hw58

def k0_chk59 (v267 : IVec S16 32) (v273 : IVec S16 32) : Prop :=
  (∀ a x, ((![v267, v273] : Fin 2 → IVec S16 32) a x).toNat < S256x128.size a)
theorem k0_idx60_inb : ∀ (v267 : IVec S16 32) (v273 : IVec S16 32) (k0_hw59 : k0_chk59 v267 v273), ∀ a x, ((![v267, v273] : Fin 2 → IVec S16 32) a x).toNat < S256x128.size a := fun v267 v273 k0_hw59 => k0_hw59

def k0_chk60 (v267 : IVec S16 32) (v277 : IVec S16 32) : Prop :=
  (∀ a x, ((![v267, v277] : Fin 2 → IVec S16 32) a x).toNat < S256x128.size a)
theorem k0_idx61_inb : ∀ (v267 : IVec S16 32) (v277 : IVec S16 32) (k0_hw60 : k0_chk60 v267 v277), ∀ a x, ((![v267, v277] : Fin 2 → IVec S16 32) a x).toNat < S256x128.size a := fun v267 v277 k0_hw60 => k0_hw60
@[reducible] def k0_t4_loop (v287 : BitVec 32) : Scf.Loop 32 :=
  let c0_i32_63 : BitVec 32 := 0#32
  let c3_i32_60 : BitVec 32 := 3#32
  let v288 : BitVec 32 := Scalar.addi v287 c3_i32_60
  let c2_i32_61 : BitVec 32 := 2#32
  let v289 : BitVec 32 := Scalar.shrsi v288 c2_i32_61
  let v291 : BitVec 32 := Scalar.subi v289 c0_i32_63
  let c1_i32_64 : BitVec 32 := 1#32
  let v293 : BitVec 32 := Scalar.divsi v291 c1_i32_64
  let v294 : BitVec 32 := Scalar.muli v293 c1_i32_64
  let v295 : BitVec 32 := Scalar.addi c0_i32_63 v294
  let c1_i32_65 : BitVec 32 := 1#32
  ⟨c0_i32_63, v295, c1_i32_65⟩

def k0_chk62 (v321 : IVec S16 32) : Prop :=
  (∀ a x, ((![v321] : Fin 1 → IVec S16 32) a x).toNat < S2048.size a)
theorem k0_idx62_inb : ∀ (v321 : IVec S16 32) (k0_hw62 : k0_chk62 v321), ∀ a x, ((![v321] : Fin 1 → IVec S16 32) a x).toNat < S2048.size a := fun v321 k0_hw62 => k0_hw62

def k0_chk63 (v336 : IVec S16 32) : Prop :=
  (∀ a x, ((![v336] : Fin 1 → IVec S16 32) a x).toNat < S2048.size a)
theorem k0_idx63_inb : ∀ (v336 : IVec S16 32) (k0_hw63 : k0_chk63 v336), ∀ a x, ((![v336] : Fin 1 → IVec S16 32) a x).toNat < S2048.size a := fun v336 k0_hw63 => k0_hw63

def k0_chk64 (v351 : IVec S16 32) : Prop :=
  (∀ a x, ((![v351] : Fin 1 → IVec S16 32) a x).toNat < S2048.size a)
theorem k0_idx64_inb : ∀ (v351 : IVec S16 32) (k0_hw64 : k0_chk64 v351), ∀ a x, ((![v351] : Fin 1 → IVec S16 32) a x).toNat < S2048.size a := fun v351 k0_hw64 => k0_hw64

def k0_chk65 (v366 : IVec S16 32) : Prop :=
  (∀ a x, ((![v366] : Fin 1 → IVec S16 32) a x).toNat < S2048.size a)
theorem k0_idx65_inb : ∀ (v366 : IVec S16 32) (k0_hw65 : k0_chk65 v366), ∀ a x, ((![v366] : Fin 1 → IVec S16 32) a x).toNat < S2048.size a := fun v366 k0_hw65 => k0_hw65
@[reducible] def k0_t5_loop (v287 : BitVec 32) : Scf.Loop 32 :=
  let c0_i32_63 : BitVec 32 := 0#32
  let c3_i32_60 : BitVec 32 := 3#32
  let v288 : BitVec 32 := Scalar.addi v287 c3_i32_60
  let c2_i32_61 : BitVec 32 := 2#32
  let v289 : BitVec 32 := Scalar.shrsi v288 c2_i32_61
  let v291 : BitVec 32 := Scalar.subi v289 c0_i32_63
  let c1_i32_64 : BitVec 32 := 1#32
  let v293 : BitVec 32 := Scalar.divsi v291 c1_i32_64
  let v294 : BitVec 32 := Scalar.muli v293 c1_i32_64
  let v295 : BitVec 32 := Scalar.addi c0_i32_63 v294
  let v292 : BitVec 32 := Scalar.addi c0_i32_63 v291
  let c1_i32_66 : BitVec 32 := 1#32
  ⟨v295, v292, c1_i32_66⟩

def k0_chk61 (v287 : BitVec 32) : Prop :=
  ((k0_t4_loop v287).OK) ∧
  ((k0_t5_loop v287).OK)
theorem k0_t4_ok : ∀ (v287 : BitVec 32) (k0_hw61 : k0_chk61 v287), (k0_t4_loop v287).OK := fun v287 k0_hw61 => k0_hw61.1
theorem k0_t5_ok : ∀ (v287 : BitVec 32) (k0_hw61 : k0_chk61 v287), (k0_t5_loop v287).OK := fun v287 k0_hw61 => k0_hw61.2

def k0_chk66 (v321 : IVec S16 32) : Prop :=
  (∀ a x, ((![v321] : Fin 1 → IVec S16 32) a x).toNat < S2048.size a)
theorem k0_idx66_inb : ∀ (v321 : IVec S16 32) (k0_hw66 : k0_chk66 v321), ∀ a x, ((![v321] : Fin 1 → IVec S16 32) a x).toNat < S2048.size a := fun v321 k0_hw66 => k0_hw66

def k0_chk67 (v336 : IVec S16 32) : Prop :=
  (∀ a x, ((![v336] : Fin 1 → IVec S16 32) a x).toNat < S2048.size a)
theorem k0_idx67_inb : ∀ (v336 : IVec S16 32) (k0_hw67 : k0_chk67 v336), ∀ a x, ((![v336] : Fin 1 → IVec S16 32) a x).toNat < S2048.size a := fun v336 k0_hw67 => k0_hw67

def k0_chk68 (v351 : IVec S16 32) : Prop :=
  (∀ a x, ((![v351] : Fin 1 → IVec S16 32) a x).toNat < S2048.size a)
theorem k0_idx68_inb : ∀ (v351 : IVec S16 32) (k0_hw68 : k0_chk68 v351), ∀ a x, ((![v351] : Fin 1 → IVec S16 32) a x).toNat < S2048.size a := fun v351 k0_hw68 => k0_hw68

def k0_chk69 (v366 : IVec S16 32) : Prop :=
  (∀ a x, ((![v366] : Fin 1 → IVec S16 32) a x).toNat < S2048.size a)
theorem k0_idx69_inb : ∀ (v366 : IVec S16 32) (k0_hw69 : k0_chk69 v366), ∀ a x, ((![v366] : Fin 1 → IVec S16 32) a x).toNat < S2048.size a := fun v366 k0_hw69 => k0_hw69

def k0_chk70 (v300 : IVec S16 32) (v301 : IVec S16 32) : Prop :=
  (∀ a x, ((![v300, v301] : Fin 2 → IVec S16 32) a x).toNat < S256x128.size a)
theorem k0_idx70_inb : ∀ (v300 : IVec S16 32) (v301 : IVec S16 32) (k0_hw70 : k0_chk70 v300 v301), ∀ a x, ((![v300, v301] : Fin 2 → IVec S16 32) a x).toNat < S256x128.size a := fun v300 v301 k0_hw70 => k0_hw70

def k0_chk71 (v300 : IVec S16 32) (v302 : IVec S16 32) : Prop :=
  (∀ a x, ((![v300, v302] : Fin 2 → IVec S16 32) a x).toNat < S256x128.size a)
theorem k0_idx71_inb : ∀ (v300 : IVec S16 32) (v302 : IVec S16 32) (k0_hw71 : k0_chk71 v300 v302), ∀ a x, ((![v300, v302] : Fin 2 → IVec S16 32) a x).toNat < S256x128.size a := fun v300 v302 k0_hw71 => k0_hw71

def k0_chk72 (v300 : IVec S16 32) (v304 : IVec S16 32) : Prop :=
  (∀ a x, ((![v300, v304] : Fin 2 → IVec S16 32) a x).toNat < S256x128.size a)
theorem k0_idx72_inb : ∀ (v300 : IVec S16 32) (v304 : IVec S16 32) (k0_hw72 : k0_chk72 v300 v304), ∀ a x, ((![v300, v304] : Fin 2 → IVec S16 32) a x).toNat < S256x128.size a := fun v300 v304 k0_hw72 => k0_hw72

def k0_chk73 (v300 : IVec S16 32) (v306 : IVec S16 32) : Prop :=
  (∀ a x, ((![v300, v306] : Fin 2 → IVec S16 32) a x).toNat < S256x128.size a)
theorem k0_idx73_inb : ∀ (v300 : IVec S16 32) (v306 : IVec S16 32) (k0_hw73 : k0_chk73 v300 v306), ∀ a x, ((![v300, v306] : Fin 2 → IVec S16 32) a x).toNat < S256x128.size a := fun v300 v306 k0_hw73 => k0_hw73

def k0_chk74 (v300 : IVec S16 32) (v310 : IVec S16 32) : Prop :=
  (∀ a x, ((![v300, v310] : Fin 2 → IVec S16 32) a x).toNat < S256x128.size a)
theorem k0_idx74_inb : ∀ (v300 : IVec S16 32) (v310 : IVec S16 32) (k0_hw74 : k0_chk74 v300 v310), ∀ a x, ((![v300, v310] : Fin 2 → IVec S16 32) a x).toNat < S256x128.size a := fun v300 v310 k0_hw74 => k0_hw74
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r4 : BitVec 32 := 0#32
  let c0_i32_3_r4 : BitVec 32 := 0#32
  ![v1.toNat, 0, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S257x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x256x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x256x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2048 : Shape := ⟨2, ![32, 2048]⟩
abbrev S32x256 : Shape := ⟨2, ![32, 256]⟩
abbrev S256 : Shape := ⟨1, ![256]⟩
abbrev S257x256 : Shape := ⟨2, ![257, 256]⟩
abbrev S256x32 : Shape := ⟨2, ![256, 32]⟩
abbrev S32 : Shape := ⟨1, ![32]⟩
abbrev S_ : Shape := ⟨0, ![]⟩
abbrev S32x2048x1 : Shape := ⟨3, ![32, 2048, 1]⟩
abbrev S1 : Shape := ⟨1, ![1]⟩
abbrev S1x1x1 : Shape := ⟨3, ![1, 1, 1]⟩
abbrev S32x2048x256 : Shape := ⟨3, ![32, 2048, 256]⟩
abbrev S1x1x256 : Shape := ⟨3, ![1, 1, 256]⟩
abbrev S32x1 : Shape := ⟨2, ![32, 1]⟩
abbrev S32x256x1 : Shape := ⟨3, ![32, 256, 1]⟩
abbrev S32x1x2048 : Shape := ⟨3, ![32, 1, 2048]⟩
abbrev S32x256x2048 : Shape := ⟨3, ![32, 256, 2048]⟩
abbrev S32x256x256 : Shape := ⟨3, ![32, 256, 256]⟩
abbrev S32x1x2048x1 : Shape := ⟨4, ![32, 1, 2048, 1]⟩
abbrev S32x256x2048x1 : Shape := ⟨4, ![32, 256, 2048, 1]⟩
abbrev S1x1x1x32 : Shape := ⟨4, ![1, 1, 1, 32]⟩
abbrev S32x1x2048x32 : Shape := ⟨4, ![32, 1, 2048, 32]⟩
abbrev S32x256x2048x32 : Shape := ⟨4, ![32, 256, 2048, 32]⟩
abbrev S32x256x32 : Shape := ⟨3, ![32, 256, 32]⟩
abbrev S32x256x257 : Shape := ⟨3, ![32, 256, 257]⟩
abbrev S1x1x32 : Shape := ⟨3, ![1, 1, 32]⟩

abbrev nBuf : Space → Nat
  | .hbm => 210
  | .vmem => 0
  | .smem => 0
  | _ => 0

abbrev hbmTy0_0 (i : Nat) : BufTy := match i % 128 with
  | 0 => ⟨S32x2048, .f32⟩
  | 1 => ⟨S32x2048, .i32⟩
  | 2 => ⟨S32x2048, .i1⟩
  | 3 => ⟨S32x256, .f32⟩
  | 4 => ⟨S32x256, .f32⟩
  | 5 => ⟨S256, .f32⟩
  | 6 => ⟨S257x256, .f32⟩
  | 7 => ⟨S256, .f32⟩
  | 8 => ⟨S256x32, .f32⟩
  | 9 => ⟨S32, .f32⟩
  | 10 => ⟨S_, .i32⟩
  | 11 => ⟨S32x2048, .i32⟩
  | 12 => ⟨S32x2048, .i1⟩
  | 13 => ⟨S_, .i32⟩
  | 14 => ⟨S32x2048, .i32⟩
  | 15 => ⟨S32x2048, .i32⟩
  | 16 => ⟨S32x2048, .i32⟩
  | 17 => ⟨S32x2048x1, .i32⟩
  | 18 => ⟨S1, .i32⟩
  | 19 => ⟨S_, .i32⟩
  | 20 => ⟨S32x2048x1, .i32⟩
  | 21 => ⟨S32x2048x1, .i1⟩
  | 22 => ⟨S1x1x1, .i32⟩
  | 23 => ⟨S32x2048x1, .i32⟩
  | 24 => ⟨S32x2048x1, .i1⟩
  | 25 => ⟨S32x2048x1, .i1⟩
  | 26 => ⟨S_, .i1⟩
  | 27 => ⟨S32x2048, .i1⟩
  | 28 => ⟨S32x2048x256, .f32⟩
  | 29 => ⟨S32x2048x256, .i1⟩
  | 30 => ⟨S_, .f32⟩
  | 31 => ⟨S32x2048x256, .f32⟩
  | 32 => ⟨S32x2048x256, .f32⟩
  | 33 => ⟨S32x2048x1, .f32⟩
  | 34 => ⟨S1x1x256, .f32⟩
  | 35 => ⟨S32x2048x256, .f32⟩
  | 36 => ⟨S32x2048x256, .f32⟩
  | 37 => ⟨S32x2048x256, .f32⟩
  | 38 => ⟨S32x2048x256, .f32⟩
  | 39 => ⟨S_, .f32⟩
  | 40 => ⟨S_, .f32⟩
  | 41 => ⟨S32x2048, .f32⟩
  | 42 => ⟨S32x2048, .f32⟩
  | 43 => ⟨S32x1, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S32, .f32⟩
  | 66 => ⟨S32x1, .f32⟩
  | 67 => ⟨S32x256, .f32⟩
  | 68 => ⟨S32x256, .f32⟩
  | 69 => ⟨S32x1, .f32⟩
  | 70 => ⟨S32x256, .f32⟩
  | 71 => ⟨S32x256, .f32⟩
  | 72 => ⟨S_, .f32⟩
  | 73 => ⟨S_, .f32⟩
  | 74 => ⟨S32x2048, .f32⟩
  | 75 => ⟨S32x2048, .f32⟩
  | 76 => ⟨S32x256x1, .f32⟩
  | 77 => ⟨S32x1x2048, .f32⟩
  | 78 => ⟨S32x256x2048, .f32⟩
  | 79 => ⟨S32x256x2048, .f32⟩
  | 80 => ⟨S32x256x2048, .f32⟩
  | 81 => ⟨S_, .f32⟩
  | 82 => ⟨S32x256x2048, .f32⟩
  | 83 => ⟨S32x256x2048, .i1⟩
  | 84 => ⟨S32x256x2048, .i32⟩
  | 85 => ⟨S_, .i32⟩
  | 86 => ⟨S32x256, .i32⟩
  | 87 => ⟨S_, .i32⟩
  | 88 => ⟨S32x256, .i32⟩
  | 89 => ⟨S32x256, .i32⟩
  | 90 => ⟨S_, .i32⟩
  | 91 => ⟨S32x256, .i32⟩
  | 92 => ⟨S32x256, .i1⟩
  | 93 => ⟨S_, .i32⟩
  | 94 => ⟨S32x256, .i32⟩
  | 95 => ⟨S32x256, .i32⟩
  | 96 => ⟨S32x256, .i32⟩
  | 97 => ⟨S32x256x1, .i32⟩
  | 98 => ⟨S1, .i32⟩
  | 99 => ⟨S_, .i32⟩
  | 100 => ⟨S32x256x1, .i32⟩
  | 101 => ⟨S32x256x1, .i1⟩
  | 102 => ⟨S1x1x1, .i32⟩
  | 103 => ⟨S32x256x1, .i32⟩
  | 104 => ⟨S32x256x1, .i1⟩
  | 105 => ⟨S32x256x1, .i1⟩
  | 106 => ⟨S_, .i1⟩
  | 107 => ⟨S32x256, .i1⟩
  | 108 => ⟨S32x256, .f32⟩
  | 109 => ⟨S_, .f32⟩
  | 110 => ⟨S32x256, .f32⟩
  | 111 => ⟨S32x256, .f32⟩
  | 112 => ⟨S32x256, .f32⟩
  | 113 => ⟨S_, .f32⟩
  | 114 => ⟨S32x256, .f32⟩
  | 115 => ⟨S32x256, .i1⟩
  | 116 => ⟨S_, .f32⟩
  | 117 => ⟨S_, .f32⟩
  | 118 => ⟨S32x256, .f32⟩
  | 119 => ⟨S32x256, .f32⟩
  | 120 => ⟨S32x256x1, .i32⟩
  | 121 => ⟨S_, .i32⟩
  | 122 => ⟨S32x256x1, .i32⟩
  | 123 => ⟨S32x256x1, .i1⟩
  | 124 => ⟨S_, .i32⟩
  | 125 => ⟨S32x256x1, .i32⟩
  | 126 => ⟨S32x256x1, .i32⟩
  | 127 => ⟨S32x256x1, .i32⟩
  | _ => ⟨S32x2048, .f32⟩

abbrev hbmTy0_1 (i : Nat) : BufTy := match i % 128 with
  | 0 => ⟨S1, .i32⟩
  | 1 => ⟨S_, .i32⟩
  | 2 => ⟨S32x256x1, .i32⟩
  | 3 => ⟨S32x256x1, .i1⟩
  | 4 => ⟨S1x1x1, .i32⟩
  | 5 => ⟨S32x256x1, .i32⟩
  | 6 => ⟨S32x256x1, .i1⟩
  | 7 => ⟨S32x256x1, .i1⟩
  | 8 => ⟨S_, .i1⟩
  | 9 => ⟨S32x256, .i1⟩
  | 10 => ⟨S32x256x256, .f32⟩
  | 11 => ⟨S32x256x256, .i1⟩
  | 12 => ⟨S_, .f32⟩
  | 13 => ⟨S32x256x256, .f32⟩
  | 14 => ⟨S32x256x256, .f32⟩
  | 15 => ⟨S_, .f32⟩
  | 16 => ⟨S_, .f32⟩
  | 17 => ⟨S32x2048, .f32⟩
  | 18 => ⟨S32x2048, .f32⟩
  | 19 => ⟨S32x1x2048, .f32⟩
  | 20 => ⟨S32x256x1, .f32⟩
  | 21 => ⟨S32x256x2048, .f32⟩
  | 22 => ⟨S32x256x2048, .f32⟩
  | 23 => ⟨S32x256x2048, .i1⟩
  | 24 => ⟨S_, .f32⟩
  | 25 => ⟨S32x256x1, .f32⟩
  | 26 => ⟨S32x256x1, .f32⟩
  | 27 => ⟨S32x256x2048, .f32⟩
  | 28 => ⟨S32x256x2048, .f32⟩
  | 29 => ⟨S32x256x2048, .i1⟩
  | 30 => ⟨S32x256x2048, .i1⟩
  | 31 => ⟨S32x1x2048, .i32⟩
  | 32 => ⟨S_, .i32⟩
  | 33 => ⟨S32x1x2048, .i32⟩
  | 34 => ⟨S32x1x2048, .i1⟩
  | 35 => ⟨S32x256x2048, .i1⟩
  | 36 => ⟨S32x256x2048, .i1⟩
  | 37 => ⟨S_, .i32⟩
  | 38 => ⟨S_, .i32⟩
  | 39 => ⟨S_, .i32⟩
  | 40 => ⟨S32x2048, .i32⟩
  | 41 => ⟨S32x2048, .i32⟩
  | 42 => ⟨S_, .i32⟩
  | 43 => ⟨S32x2048, .i32⟩
  | 44 => ⟨S32x2048, .i32⟩
  | 45 => ⟨S32x1x2048x1, .i32⟩
  | 46 => ⟨S32x256x2048x1, .i1⟩
  | 47 => ⟨S32, .i32⟩
  | 48 => ⟨S1x1x1x32, .i32⟩
  | 49 => ⟨S32x1x2048x32, .i32⟩
  | 50 => ⟨S32x1x2048x32, .i32⟩
  | 51 => ⟨S32x1x2048x32, .i1⟩
  | 52 => ⟨S32x256x2048x32, .i1⟩
  | 53 => ⟨S32x256x2048x32, .i1⟩
  | 54 => ⟨S32x256x2048x32, .i1⟩
  | 55 => ⟨S32x256x2048x32, .f32⟩
  | 56 => ⟨S_, .f32⟩
  | 57 => ⟨S32x256x32, .f32⟩
  | 58 => ⟨S_, .f32⟩
  | 59 => ⟨S32x256x32, .f32⟩
  | 60 => ⟨S32x256x32, .f32⟩
  | 61 => ⟨S32x256x1, .f32⟩
  | 62 => ⟨S32x256x257, .f32⟩
  | 63 => ⟨S32x256x256, .f32⟩
  | 64 => ⟨S1x1x256, .f32⟩
  | 65 => ⟨S32x256x256, .f32⟩
  | 66 => ⟨S32x256x256, .f32⟩
  | 67 => ⟨S_, .f32⟩
  | 68 => ⟨S32x256x256, .f32⟩
  | 69 => ⟨S32x256x256, .f32⟩
  | 70 => ⟨S32x256x32, .f32⟩
  | 71 => ⟨S1x1x32, .f32⟩
  | 72 => ⟨S32x256x32, .f32⟩
  | 73 => ⟨S32x256x32, .f32⟩
  | 74 => ⟨S32x256x32, .f32⟩
  | 75 => ⟨S32x256x32, .f32⟩
  | 76 => ⟨S_, .f32⟩
  | 77 => ⟨S32x256x32, .f32⟩
  | 78 => ⟨S32x256x32, .f32⟩
  | 79 => ⟨S_, .f32⟩
  | 80 => ⟨S32x256x32, .f32⟩
  | 81 => ⟨S32x256x32, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_0 : Ref sig .tc := ⟨.hbm, 45, rfl⟩
abbrev main_v10 : Ref sig .tc := ⟨.hbm, 46, rfl⟩
abbrev main_v11 : Ref sig .tc := ⟨.hbm, 47, rfl⟩
abbrev main_cst_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_2 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_3 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_call2_v0 : Ref sig .tc := ⟨.hbm, 73, rfl⟩
abbrev main_call2_v1 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_6 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c : Ref sig .tc := ⟨.hbm, 85, rfl⟩
abbrev main_v41 : Ref sig .tc := ⟨.hbm, 86, rfl⟩
abbrev main_c_7 : Ref sig .tc := ⟨.hbm, 87, rfl⟩
abbrev main_v42 : Ref sig .tc := ⟨.hbm, 88, rfl⟩
abbrev main_v43 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v44 : Ref sig .tc := ⟨.hbm, 111, rfl⟩
abbrev main_v45 : Ref sig .tc := ⟨.hbm, 112, rfl⟩
abbrev main_cst_8 : Ref sig .tc := ⟨.hbm, 113, rfl⟩
abbrev main_v46 : Ref sig .tc := ⟨.hbm, 114, rfl⟩
abbrev main_v47 : Ref sig .tc := ⟨.hbm, 115, rfl⟩
abbrev main_cst_9 : Ref sig .tc := ⟨.hbm, 116, rfl⟩
abbrev main_call4_v0 : Ref sig .tc := ⟨.hbm, 117, rfl⟩
abbrev main_call4_v1 : Ref sig .tc := ⟨.hbm, 118, rfl⟩
abbrev main_v48 : Ref sig .tc := ⟨.hbm, 119, rfl⟩
abbrev main_v49 : Ref sig .tc := ⟨.hbm, 120, rfl⟩
abbrev main_call5_c : Ref sig .tc := ⟨.hbm, 121, rfl⟩
abbrev main_call5_v0 : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_c_1 : Ref sig .tc := ⟨.hbm, 128, rfl⟩
abbrev main_call5_c_2 : Ref sig .tc := ⟨.hbm, 129, rfl⟩
abbrev main_call5_v5 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_v9 : Ref sig .tc := ⟨.hbm, 134, rfl⟩
abbrev main_call5_v10 : Ref sig .tc := ⟨.hbm, 135, rfl⟩
abbrev main_call5_c_3 : Ref sig .tc := ⟨.hbm, 136, rfl⟩
abbrev main_call5_v11 : Ref sig .tc := ⟨.hbm, 137, rfl⟩
abbrev main_call5_v12 : Ref sig .tc := ⟨.hbm, 138, rfl⟩
abbrev main_call5_v13 : Ref sig .tc := ⟨.hbm, 139, rfl⟩
abbrev main_call5_cst : Ref sig .tc := ⟨.hbm, 140, rfl⟩
abbrev main_call5_v14 : Ref sig .tc := ⟨.hbm, 141, rfl⟩
abbrev main_v50 : Ref sig .tc := ⟨.hbm, 142, rfl⟩
abbrev main_cst_10 : Ref sig .tc := ⟨.hbm, 143, rfl⟩
abbrev main_call6_v0 : Ref sig .tc := ⟨.hbm, 144, rfl⟩
abbrev main_call6_v1 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_cst_11 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_c_12 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_c_13 : Ref sig .tc := ⟨.hbm, 165, rfl⟩
abbrev main_c_14 : Ref sig .tc := ⟨.hbm, 166, rfl⟩
abbrev main_call7_v0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_cst_15 : Ref sig .tc := ⟨.hbm, 184, rfl⟩
abbrev main_v80 : Ref sig .tc := ⟨.hbm, 185, rfl⟩
abbrev main_cst_16 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_call8_cst : Ref sig .tc := ⟨.hbm, 195, rfl⟩
abbrev main_call8_v0 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_cst_17 : Ref sig .tc := ⟨.hbm, 204, rfl⟩
abbrev main_v96 : Ref sig .tc := ⟨.hbm, 205, rfl⟩
abbrev main_v97 : Ref sig .tc := ⟨.hbm, 206, rfl⟩
abbrev main_cst_18 : Ref sig .tc := ⟨.hbm, 207, rfl⟩
abbrev main_v98 : Ref sig .tc := ⟨.hbm, 208, rfl⟩
abbrev main_v99 : Ref sig .tc := ⟨.hbm, 209, rfl⟩

abbrev nD : Nat := 1
abbrev τ : Topo := Topo.v7x

variable {F : FTy → Type} [FloatOps F]
-- ==== Proof.Spec.lean ====
/-
  What a tile computes, as pure functions of the rows it fetched: the halving search over a sorted row, the event types
  that follow a sample inside the window as the bits of one word, and the five columns a sample's row is left with.
-/
module

public import proofs.«01_k».proof.Proof.Gen.KernelIdeal.Skeleton

@[expose] public section

noncomputable section

namespace Cert.Proof

open Cert.KernelIdeal Cert.KernelIdeal.Gen
open Idealize.ShloMosaic

variable {F : FTy → Type}

theorem S2048_pos : ∀ a, 0 < S2048.size a := by decide
/-- Position `n` of a row of 2048, whatever `n`. -/
def ix1 (n : Nat) : S2048.Idx := fun a => ⟨n % S2048.size a, Nat.mod_lt _ (S2048_pos a)⟩
/-- The gather of a row at a vector of positions. -/
def gt {α : Type} (f : S2048.Idx → α) (ix : IVec S16 32) : S16.Idx → α := fun x => f (ix1 (ix x).toNat)

/-- `v + s ≤ 2048` in every lane. -/
def Bd (s : Nat) (v : IVec S16 32) : Prop := ∀ x, (v x).toNat + s ≤ 2048

theorem inb_of_bd {s : Nat} {v : IVec S16 32} (hs : 0 < s) (h : Bd s v) : ∀ a x, ((![v] : Fin 1 → IVec S16 32) a x).toNat < S2048.size a := by
  intro a x
  obtain rfl : a = 0 := Subsingleton.elim _ _
  have := h x
  show (v x).toNat < 2048
  omega

theorem loadIdx_gt {e : EltTy} (f : Vec F S2048 e) (v : IVec S16 32) (h : ∀ a x, ((![v] : Fin 1 → IVec S16 32) a x).toNat < S2048.size a) :
    loadIdx f ![v] h = gt f v := by
  funext x
  show f _ = f _
  congr 1
  funext a
  apply Fin.ext
  have := h a x
  obtain rfl : a = 0 := Subsingleton.elim _ _
  exact (Nat.mod_eq_of_lt this).symm

variable [FloatOps F]

/-- The position a search step of width `s` tries. -/
def cand (s : BitVec 32) (pos : IVec S16 32) : IVec S16 32 := addi pos (broadcast S16 s)
/-- A search step: the tried position where its time is at most the target, else the old one. -/
def stp (tv : Vec F S2048 .f32) (st : FVec F S16 .f32) (s : BitVec 32) (pos : IVec S16 32) : IVec S16 32 :=
  select (cmpf .ole (gt tv (cand s pos)) st) (cand s pos) pos

theorem cand_bd (s : BitVec 32) (pos : IVec S16 32) (h : Bd (2 * s.toNat) pos) : Bd s.toNat (cand s pos) := by
  intro x
  have := h x
  have e : cand s pos x = pos x + s := rfl
  have := BitVec.toNat_add (pos x) s
  have hs := s.isLt
  rw [e, this, Nat.mod_eq_of_lt (by omega)]
  omega

theorem stp_bd (tv : Vec F S2048 .f32) (st : FVec F S16 .f32) (s : BitVec 32) (pos : IVec S16 32) (h : Bd (2 * s.toNat) pos) :
    Bd s.toNat (stp tv st s pos) := by
  intro x
  have h1 := cand_bd s pos h x
  have h2 := h x
  have e : stp tv st s pos x = if cmpf .ole (gt tv (cand s pos)) st x = 1 then cand s pos x else pos x := rfl
  rw [e]
  split <;> omega

/-- The first steps of the search, down to a width of 256, -/
def srchA (tv : Vec F S2048 .f32) (st : FVec F S16 .f32) : IVec S16 32 :=
  stp tv st 256#32 (stp tv st 512#32 (stp tv st 1024#32 (broadcast S16 0#32)))
/-- and all eleven: the last position whose time is at most the target. -/
def srch (tv : Vec F S2048 .f32) (st : FVec F S16 .f32) : IVec S16 32 :=
  stp tv st 1#32 (stp tv st 2#32 (stp tv st 4#32 (stp tv st 8#32 (stp tv st 16#32 (stp tv st 32#32 (stp tv st 64#32
    (stp tv st 128#32 (srchA tv st))))))))

theorem zero_bd : Bd 2048 (broadcast S16 0#32) := fun _ => by
  show (0#32 : BitVec 32).toNat + 2048 ≤ 2048
  decide
theorem srchA_bd (tv : Vec F S2048 .f32) (st : FVec F S16 .f32) : Bd 256 (srchA tv st) :=
  stp_bd tv st 256#32 _ (stp_bd tv st 512#32 _ (stp_bd tv st 1024#32 _ zero_bd))
theorem srch_bd (tv : Vec F S2048 .f32) (st : FVec F S16 .f32) : Bd 1 (srch tv st) :=
  stp_bd tv st 1#32 _ (stp_bd tv st 2#32 _ (stp_bd tv st 4#32 _ (stp_bd tv st 8#32 _ (stp_bd tv st 16#32 _ (stp_bd tv st 32#32 _
    (stp_bd tv st 64#32 _ (stp_bd tv st 128#32 _ (srchA_bd tv st))))))))

/-- The sample times of a group of sixteen: `u * scale + first`, -/
def stV (u scale first : FVec F S16 .f32) : FVec F S16 .f32 := addf (mulf u scale) first
/-- and the end of their windows. -/
def hiV (st : FVec F S16 .f32) : FVec F S16 .f32 := addf st (broadcast S16 (Scalar.ofBits .f32 0x41200000#32))

/-! ## The types inside the window -/

/-- The position of the `j`-th event after `pos`, no further than the last. -/
def nxt (pos : IVec S16 32) (j : BitVec 32) : IVec S16 32 :=
  minsi (addi (addi pos (broadcast S16 1#32)) (broadcast S16 j)) (broadcast S16 2047#32)
/-- That event's type as a bit, nothing if it lies past the window of `w` events. -/
def bitAt (ty : IVec S2048 32) (pos w : IVec S16 32) (j : BitVec 32) : IVec S16 32 :=
  select (cmpi .slt (broadcast S16 j) w) (shli (broadcast S16 1#32) (gt ty (nxt pos j))) (broadcast S16 0#32)
/-- The bits of the first `n` events after `pos`. -/
def accN (ty : IVec S2048 32) (pos w : IVec S16 32) : Nat → IVec S16 32
  | 0 => broadcast S16 0#32
  | n + 1 => ori (accN ty pos w n) (bitAt ty pos w (BitVec.ofNat 32 n))

/-- The largest of sixteen signed words, as the kernel takes it. -/
def wmax (w : IVec S16 32) : BitVec 32 :=
  extractAt ![15] (xori (scan .max (xori w (broadcast S16 2147483648#32))) (broadcast S16 2147483648#32)) inpos_S16_p15
/-- How many groups of four events the kernel reads. -/
def grp (m : BitVec 32) : Nat := (Scalar.shrsi (Scalar.addi m 3#32) 2#32).toInt.toNat

/-- The word of types after `pos` inside the window. -/
def accV (ty : IVec S2048 32) (pos w : IVec S16 32) : IVec S16 32 := accN ty pos w (4 * grp (wmax w))

/-! ## The five columns -/

/-- Column `c` of the sixteen samples with times `st`. -/
def colV (tv : Vec F S2048 .f32) (ty : IVec S2048 32) (st : FVec F S16 .f32) (c : Nat) : FVec F S16 .f32 :=
  match c with
  | 0 => gt tv (srch tv st)
  | 1 => subf st (gt tv (srch tv st))
  | 2 => sitofp .f32 (gt ty (srch tv st))
  | 3 => sitofp .f32 (andi (accV ty (srch tv st) (subi (srch tv (hiV st)) (srch tv st))) (broadcast S16 65535#32))
  | _ => sitofp .f32 (shrui (accV ty (srch tv st) (subi (srch tv (hiV st)) (srch tv st))) (broadcast S16 16#32))

end Cert.Proof

end

end
-- ==== Proof.Setup.lean ====
/-
  The program as the launch theorem sees it, the resource algebra of the proof (the launch's handshakes, the grid's
  staging cells, the copies' counters), a tile's scratch buffers, and the indexed loads and stores over them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import Idealize.ShloMosaic.Lib.LoopRemainder
public import proofs.«01_k».proof.Proof.Spec

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) := embL
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## A tile and its scratch -/

abbrev cV (L : grid0.Coords) : Fin τ.nSC := (L 0).castLE hcore0
abbrev jV (L : grid0.Coords) : Fin τ.nSub := (L 1).castLE hsub0
abbrev thr (d : Dev nD) (L : grid0.Coords) := V d (cV L) (jV L)

abbrev tM : Memref sig .scVector .vmem S2048 .f32 := Memref.whole cc0_scratch0
abbrev yM : Memref sig .scVector .vmem S2048 .i32 := Memref.whole cc0_scratch1
abbrev uM : Memref sig .scVector .vmem S256 .f32 := Memref.whole cc0_scratch2
abbrev fM : Memref sig .scVector .vmem S32 .f32 := Memref.whole cc0_scratch3
abbrev aM : Memref sig .scVector .vmem S256x128 .f32 := Memref.whole cc0_scratch4
abbrev ghT : Memref sig .scVector .hbm S32x2048 .f32 := Memref.whole main_arg0_scv
abbrev ghY : Memref sig .scVector .hbm S32x2048 .i32 := Memref.whole main_arg1_scv
abbrev ghU : Memref sig .scVector .hbm S32x256 .f32 := Memref.whole main_arg3_scv
abbrev ghF : Memref sig .scVector .hbm S32x32 .f32 := Memref.whole main_v12_scv
abbrev ghA : Memref sig .scVector .hbm S32x256x128 .f32 := Memref.whole main_v13_scv

variable (d : Dev nD) (L : grid0.Coords)

/-- A scratch buffer of the tile, held whole. -/
abbrev tRes (f : Vec F S2048 .f32) : sProp 𝕄 := iprop(((tM).view.loc (thr d L) : Loc nD τ sig) ↦[Finset.univ]{fullShare} f)
abbrev yRes (f : Vec F S2048 .i32) : sProp 𝕄 := iprop(((yM).view.loc (thr d L) : Loc nD τ sig) ↦[Finset.univ]{fullShare} f)
abbrev uRes (f : Vec F S256 .f32) : sProp 𝕄 := iprop(((uM).view.loc (thr d L) : Loc nD τ sig) ↦[Finset.univ]{fullShare} f)
abbrev fRes (f : Vec F S32 .f32) : sProp 𝕄 := iprop(((fM).view.loc (thr d L) : Loc nD τ sig) ↦[Finset.univ]{fullShare} f)
abbrev aRes (f : Vec F S256x128 .f32) : sProp 𝕄 := iprop(((aM).view.loc (thr d L) : Loc nD τ sig) ↦[Finset.univ]{fullShare} f)

variable [FloatOps F]

/-- The tile's programs run under the kernel's own definitions. -/
abbrev wpT {α : Type} (p : Prog (TpuEff nD τ sig (Elt F) Λ₀ (thr d L).2) α) (Q : α → sProp 𝕄) : sProp 𝕄 :=
  wp frame (wpE defs₀ 𝒱₀ (thr d L) none) Set.univ p Q

/-- An assumption the proof owes: paid. -/
theorem wp_asm {α : Type} {P : Prop} {dc : Decidable P} {k : PLift P → Prog (TpuEff nD τ sig (Elt F) Λ₀ (thr d L).2) α} {Q : α → sProp 𝕄} (h : P) :
    wpT d L (k ⟨h⟩) Q ⊢ wpT d L (.op (.assume P dc) k) Q :=
  Entails.of_eq (wp_assume_of _ _ _ _ h).symm

/-- An indexed load of the times. -/
theorem wp_gatF {α : Type} (f : Vec F S2048 .f32) (v : IVec S16 32) {h : ∀ a x, ((![v] : Fin 1 → IVec S16 32) a x).toNat < S2048.size a}
    {hl : (tM).view.Loads} {k : Vec F S16 .f32 → Prog (TpuEff nD τ sig (Elt F) Λ₀ (thr d L).2) α} {Q : α → sProp 𝕄} :
    tRes d L f ⊢ iprop((tRes d L f -∗ wpT d L (k (gt f v)) Q) -∗ wpT d L (SparseCore.vectorLoadIdx (tM) ![v] h hl >>= k) Q) := by
  have := SparseCore.wp_vectorLoadIdx (defs := defs₀) 𝒱₀ (thr d L) none Set.univ (base := tM) (S := Finset.univ) (q := fullShare) (f := f) (h := h) (hl := hl) (k := k) (Q := Q) (Finset.subset_univ _)
  rw [show (((tM).access (.whole S2048)).read (Elt F) f) = f from Memref.read_access_whole (Elt F) cc0_scratch0 f, loadIdx_gt] at this
  exact this

/-- An indexed load of the event types. -/
theorem wp_gatI {α : Type} (f : Vec F S2048 .i32) (v : IVec S16 32) {h : ∀ a x, ((![v] : Fin 1 → IVec S16 32) a x).toNat < S2048.size a}
    {hl : (yM).view.Loads} {k : Vec F S16 .i32 → Prog (TpuEff nD τ sig (Elt F) Λ₀ (thr d L).2) α} {Q : α → sProp 𝕄} :
    yRes d L f ⊢ iprop((yRes d L f -∗ wpT d L (k (gt f v)) Q) -∗ wpT d L (SparseCore.vectorLoadIdx (yM) ![v] h hl >>= k) Q) := by
  have := SparseCore.wp_vectorLoadIdx (defs := defs₀) 𝒱₀ (thr d L) none Set.univ (base := yM) (S := Finset.univ) (q := fullShare) (f := f) (h := h) (hl := hl) (k := k) (Q := Q) (Finset.subset_univ _)
  rw [show (((yM).access (.whole S2048)).read (Elt F) f) = f from Memref.read_access_whole (Elt F) cc0_scratch1 f, loadIdx_gt] at this
  exact this

end Cert.Proof
-- ==== Proof.Search.lean ====
/-
  The halving searches of a chunk, part by part: each part leaves the scratch as it found it and returns the search's
  positions as the specification computes them.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (d : Dev nD) (L : grid0.Coords)

/-! ## The parts, at the task's own buffers and semaphores -/

abbrev at1 := k0_part1 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at2 := k0_part2 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at3 := k0_part3 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at4 := k0_part4 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at5 := k0_part5 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at6 := k0_part6 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at7 := k0_part7 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at8 := k0_part8 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at9 := k0_part9 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at10 := k0_part10 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at11 := k0_part11 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4
abbrev at12 := k0_part12 (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4

/-- The first sample of a chunk's first group. -/
abbrev base (t : Fin k0_t1_loop.trips) : BitVec 32 := Scalar.muli (Scalar.muli (Scf.iv 0#32 1#32 t) 2#32) 16#32
/-- The draws of a chunk's first group, -/
def uA (uv : Vec F S256 .f32) (t : Fin k0_t1_loop.trips) : Vec F S16 .f32 :=
  (uM).view.readAt (Elt F) (Rect.unit (s := S256) (k0_off4 t) S16.size (k0_off4_inb t)).toLoadRect uv
/-- and of its second. -/
def uB (uv : Vec F S256 .f32) (t : Fin k0_t1_loop.trips) : Vec F S16 .f32 :=
  (uM).view.readAt (Elt F) (Rect.unit (s := S256) (k0_off5 t) S16.size (k0_off5_inb t)).toLoadRect uv

theorem part5_wp {α : Type} (tv : Vec F S2048 .f32) (uv : Vec F S256 .f32) (v2 v3 : Vec F S16 .f32) (k0_t1 : Fin k0_t1_loop.trips)
    {k : (Σ' (v6 : BitVec 32) (v7 : BitVec 32) (v11 : FVec F S16 .f32) (v13 : FVec F S16 .f32) (v43 : IVec S16 32), IVec S16 32) → Prog (TpuEff nD τ sig (Elt F) Λ₀ (thr d L).2) α} {Q : α → sProp 𝕄} :
    iprop(tRes d L tv ∗ uRes d L uv)
      ⊢ iprop((tRes d L tv ∗ uRes d L uv -∗ wpT d L (k ⟨base k0_t1, Scalar.addi (base k0_t1) 16#32, stV (uA uv k0_t1) v3 v2, hiV (stV (uA uv k0_t1) v3 v2),
            srchA tv (stV (uA uv k0_t1) v3 v2), srchA tv (hiV (stV (uA uv k0_t1) v3 v2))⟩) Q)
        -∗ wpT d L (at5 L v2 v3 0#32 1#32 k0_t1 >>= k) Q) := by
  iintro ⟨Ht, Hu⟩ Hk
  simp only [at5, k0_part5_eq_skeleton]
  unfold k0_part5_skel
  simp only [Prog.lift, Prog.bind_assoc, Prog.bind_op, Prog.bind_ret, Prog.pure_eq_ret]
  iapply (wp_load 𝒱₀ (thr d L) none Set.univ (m := uM) (S := Finset.univ) (Finset.subset_univ _)) $$ Hu; iintro Hu
  iapply (wp_asm d L (inb_of_bd (s := 1024) (by decide) (cand_bd 1024#32 (broadcast S16 0#32) zero_bd)))
  iapply (wp_asm d L (inb_of_bd (s := 1024) (by decide) (cand_bd 1024#32 (broadcast S16 0#32) zero_bd)))
  iapply (wp_gatF d L tv (cand 1024#32 (broadcast S16 0#32))) $$ Ht; iintro Ht
  iapply (wp_gatF d L tv (cand 1024#32 (broadcast S16 0#32))) $$ Ht; iintro Ht
  iapply (wp_asm d L (inb_of_bd (s := 512) (by decide) (cand_bd 512#32 (stp tv (stV (uA uv k0_t1) v3 v2) 1024#32 (broadcast S16 0#32)) (stp_bd tv (stV (uA uv k0_t1) v3 v2) 1024#32 (broadcast S16 0#32) zero_bd))))
  iapply (wp_asm d L (inb_of_bd (s := 512) (by decide) (cand_bd 512#32 (stp tv (hiV (stV (uA uv k0_t1) v3 v2)) 1024#32 (broadcast S16 0#32)) (stp_bd tv (hiV (stV (uA uv k0_t1) v3 v2)) 1024#32 (broadcast S16 0#32) zero_bd))))
  iapply (wp_gatF d L tv (cand 512#32 (stp tv (stV (uA uv k0_t1) v3 v2) 1024#32 (broadcast S16 0#32)))) $$ Ht; iintro Ht
  iapply (wp_gatF d L tv (cand 512#32 (stp tv (hiV (stV (uA uv k0_t1) v3 v2)) 1024#32 (broadcast S16 0#32)))) $$ Ht; iintro Ht
  iapply (wp_asm d L (inb_of_bd (s := 256) (by decide) (cand_bd 256#32 (stp tv (stV (uA uv k0_t1) v3 v2) 512#32 (stp tv (stV (uA uv k0_t1) v3 v2) 1024#32 (broadcast S16 0#32))) (stp_bd tv (stV (uA uv k0_t1) v3 v2) 512#32 (stp tv (stV (uA uv k0_t1) v3 v2) 1024#32 (broadcast S16 0#32)) (stp_bd tv (stV (uA uv k0_t1) v3 v2) 1024#32 (broadcast S16 0#32) zero_bd)))))
  iapply (wp_asm d L (inb_of_bd (s := 256) (by decide) (cand_bd 256#32 (stp tv (hiV (stV (uA uv k0_t1) v3 v2)) 512#32 (stp tv (hiV (stV (uA uv k0_t1) v3 v2)) 1024#32 (broadcast S16 0#32))) (stp_bd tv (hiV (stV (uA uv k0_t1) v3 v2)) 512#32 (stp tv (hiV (stV (uA uv k0_t1) v3 v2)) 1024#32 (broadcast S16 0#32)) (stp_bd tv (hiV (stV (uA uv k0_t1) v3 v2)) 1024#32 (broadcast S16 0#32) zero_bd)))))
  iapply (wp_gatF d L tv (cand 256#32 (stp tv (stV (uA uv k0_t1) v3 v2) 512#32 (stp tv (stV (uA uv k0_t1) v3 v2) 1024#32 (broadcast S16 0#32))))) $$ Ht; iintro Ht
  iapply (wp_gatF d L tv (cand 256#32 (stp tv (hiV (stV (uA uv k0_t1) v3 v2)) 512#32 (stp tv (hiV (stV (uA uv k0_t1) v3 v2)) 1024#32 (broadcast S16 0#32))))) $$ Ht; iintro Ht
  iapply Hk $$ [Ht Hu]
  isplitl [Ht]; · iexact Ht
  iexact Hu

theorem part6_wp {α : Type} (tv : Vec F S2048 .f32) (a b : FVec F S16 .f32) (p r : IVec S16 32) (hp : Bd 256 p) (hr : Bd 256 r)
    {k : (Σ' (v83 : IVec S16 32) (v85 : IVec S16 32) (v87 : IVec S16 32), k0_chk15 v87) → Prog (TpuEff nD τ sig (Elt F) Λ₀ (thr d L).2) α} {Q : α → sProp 𝕄} :
    tRes d L tv
      ⊢ iprop((∀ h, tRes d L tv -∗ wpT d L (k ⟨(stp tv a 16#32 (stp tv a 32#32 (stp tv a 64#32 (stp tv a 128#32 p)))), (stp tv b 16#32 (stp tv b 32#32 (stp tv b 64#32 (stp tv b 128#32 r)))), (cand 8#32 (stp tv a 16#32 (stp tv a 32#32 (stp tv a 64#32 (stp tv a 128#32 p))))), h⟩) Q)
        -∗ wpT d L (at6 L a b p r >>= k) Q) := by
  iintro Ht Hk
  simp only [at6, k0_part6_eq_skeleton]
  unfold k0_part6_skel
  simp only [Prog.lift, Prog.bind_assoc, Prog.bind_op, Prog.bind_ret, Prog.pure_eq_ret]
  iapply (wp_asm d L (inb_of_bd (s := 128) (by decide) (cand_bd 128#32 p hp)))
  iapply (wp_asm d L (inb_of_bd (s := 128) (by decide) (cand_bd 128#32 r hr)))
  iapply (wp_gatF d L tv (cand 128#32 p)) $$ Ht; iintro Ht
  iapply (wp_gatF d L tv (cand 128#32 r)) $$ Ht; iintro Ht
  iapply (wp_asm d L (inb_of_bd (s := 64) (by decide) (cand_bd 64#32 (stp tv a 128#32 p) (stp_bd tv a 128#32 p hp))))
  iapply (wp_asm d L (inb_of_bd (s := 64) (by decide) (cand_bd 64#32 (stp tv b 128#32 r) (stp_bd tv b 128#32 r hr))))
  iapply (wp_gatF d L tv (cand 64#32 (stp tv a 128#32 p))) $$ Ht; iintro Ht
  iapply (wp_gatF d L tv (cand 64#32 (stp tv b 128#32 r))) $$ Ht; iintro Ht
  iapply (wp_asm d L (inb_of_bd (s := 32) (by decide) (cand_bd 32#32 (stp tv a 64#32 (stp tv a 128#32 p)) (stp_bd tv a 64#32 (stp tv a 128#32 p) (stp_bd tv a 128#32 p hp)))))
  iapply (wp_asm d L (inb_of_bd (s := 32) (by decide) (cand_bd 32#32 (stp tv b 64#32 (stp tv b 128#32 r)) (stp_bd tv b 64#32 (stp tv b 128#32 r) (stp_bd tv b 128#32 r hr)))))
  iapply (wp_gatF d L tv (cand 32#32 (stp tv a 64#32 (stp tv a 128#32 p)))) $$ Ht; iintro Ht
  iapply (wp_gatF d L tv (cand 32#32 (stp tv b 64#32 (stp tv b 128#32 r)))) $$ Ht; iintro Ht
  iapply (wp_asm d L (inb_of_bd (s := 16) (by decide) (cand_bd 16#32 (stp tv a 32#32 (stp tv a 64#32 (stp tv a 128#32 p))) (stp_bd tv a 32#32 (stp tv a 64#32 (stp tv a 128#32 p)) (stp_bd tv a 64#32 (stp tv a 128#32 p) (stp_bd tv a 128#32 p hp))))))
  iapply (wp_asm d L (inb_of_bd (s := 16) (by decide) (cand_bd 16#32 (stp tv b 32#32 (stp tv b 64#32 (stp tv b 128#32 r))) (stp_bd tv b 32#32 (stp tv b 64#32 (stp tv b 128#32 r)) (stp_bd tv b 64#32 (stp tv b 128#32 r) (stp_bd tv b 128#32 r hr))))))
  iapply (wp_gatF d L tv (cand 16#32 (stp tv a 32#32 (stp tv a 64#32 (stp tv a 128#32 p))))) $$ Ht; iintro Ht
  iapply (wp_gatF d L tv (cand 16#32 (stp tv b 32#32 (stp tv b 64#32 (stp tv b 128#32 r))))) $$ Ht; iintro Ht
  iapply (wp_asm d L (inb_of_bd (s := 8) (by decide) (cand_bd 8#32 (stp tv a 16#32 (stp tv a 32#32 (stp tv a 64#32 (stp tv a 128#32 p)))) (stp_bd tv a 16#32 (stp tv a 32#32 (stp tv a 64#32 (stp tv a 128#32 p))) (stp_bd tv a 32#32 (stp tv a 64#32 (stp tv a 128#32 p)) (stp_bd tv a 64#32 (stp tv a 128#32 p) (stp_bd tv a 128#32 p hp)))))))
  iapply Hk $$ Ht

theorem part7_wp {α : Type} (tv : Vec F S2048 .f32) (ty : Vec F S2048 .i32) (uv : Vec F S256 .f32) (v2 v3 : Vec F S16 .f32) (k0_t1 : Fin k0_t1_loop.trips)
    (v7 : BitVec 32) (a b : FVec F S16 .f32) (p r : IVec S16 32) (hp : Bd 16 p) (hr : Bd 16 r) (h : k0_chk15 (cand 8#32 p))
    {k : (Σ' (v123 : IVec S16 32) (v125 : IVec S16 32) (v126 : Vec F S16 .f32) (v127 : Vec F S16 .i32) (v131 : FVec F S16 .f32), F .f32) → Prog (TpuEff nD τ sig (Elt F) Λ₀ (thr d L).2) α} {Q : α → sProp 𝕄} :
    iprop(tRes d L tv ∗ yRes d L ty ∗ uRes d L uv)
      ⊢ iprop((tRes d L tv ∗ yRes d L ty ∗ uRes d L uv -∗ wpT d L (k ⟨(stp tv a 1#32 (stp tv a 2#32 (stp tv a 4#32 (stp tv a 8#32 p)))), (stp tv b 1#32 (stp tv b 2#32 (stp tv b 4#32 (stp tv b 8#32 r)))), gt tv (stp tv a 1#32 (stp tv a 2#32 (stp tv a 4#32 (stp tv a 8#32 p)))), gt ty (stp tv a 1#32 (stp tv a 2#32 (stp tv a 4#32 (stp tv a 8#32 p)))),
            stV (uB uv k0_t1) v3 v2, Scalar.ofBits .f32 0x41200000#32⟩) Q)
        -∗ wpT d L (at7 L v2 v3 k0_t1 v7 a b p r (cand 8#32 p) h >>= k) Q) := by
  iintro ⟨Ht, Hy, Hu⟩ Hk
  simp only [at7, k0_part7_eq_skeleton]
  unfold k0_part7_skel
  simp only [Prog.lift, Prog.bind_assoc, Prog.bind_op, Prog.bind_ret, Prog.pure_eq_ret]
  iapply (wp_asm d L (inb_of_bd (s := 8) (by decide) (cand_bd 8#32 r hr)))
  iapply (wp_gatF d L tv (cand 8#32 p)) $$ Ht; iintro Ht
  iapply (wp_gatF d L tv (cand 8#32 r)) $$ Ht; iintro Ht
  iapply (wp_asm d L (inb_of_bd (s := 4) (by decide) (cand_bd 4#32 (stp tv a 8#32 p) (stp_bd tv a 8#32 p hp))))
  iapply (wp_asm d L (inb_of_bd (s := 4) (by decide) (cand_bd 4#32 (stp tv b 8#32 r) (stp_bd tv b 8#32 r hr))))
  iapply (wp_gatF d L tv (cand 4#32 (stp tv a 8#32 p))) $$ Ht; iintro Ht
  iapply (wp_gatF d L tv (cand 4#32 (stp tv b 8#32 r))) $$ Ht; iintro Ht
  iapply (wp_asm d L (inb_of_bd (s := 2) (by decide) (cand_bd 2#32 (stp tv a 4#32 (stp tv a 8#32 p)) (stp_bd tv a 4#32 (stp tv a 8#32 p) (stp_bd tv a 8#32 p hp)))))
  iapply (wp_asm d L (inb_of_bd (s := 2) (by decide) (cand_bd 2#32 (stp tv b 4#32 (stp tv b 8#32 r)) (stp_bd tv b 4#32 (stp tv b 8#32 r) (stp_bd tv b 8#32 r hr)))))
  iapply (wp_gatF d L tv (cand 2#32 (stp tv a 4#32 (stp tv a 8#32 p)))) $$ Ht; iintro Ht
  iapply (wp_gatF d L tv (cand 2#32 (stp tv b 4#32 (stp tv b 8#32 r)))) $$ Ht; iintro Ht
  iapply (wp_asm d L (inb_of_bd (s := 1) (by decide) (cand_bd 1#32 (stp tv a 2#32 (stp tv a 4#32 (stp tv a 8#32 p))) (stp_bd tv a 2#32 (stp tv a 4#32 (stp tv a 8#32 p)) (stp_bd tv a 4#32 (stp tv a 8#32 p) (stp_bd tv a 8#32 p hp))))))
  iapply (wp_asm d L (inb_of_bd (s := 1) (by decide) (cand_bd 1#32 (stp tv b 2#32 (stp tv b 4#32 (stp tv b 8#32 r))) (stp_bd tv b 2#32 (stp tv b 4#32 (stp tv b 8#32 r)) (stp_bd tv b 4#32 (stp tv b 8#32 r) (stp_bd tv b 8#32 r hr))))))
  iapply (wp_gatF d L tv (cand 1#32 (stp tv a 2#32 (stp tv a 4#32 (stp tv a 8#32 p))))) $$ Ht; iintro Ht
  iapply (wp_gatF d L tv (cand 1#32 (stp tv b 2#32 (stp tv b 4#32 (stp tv b 8#32 r))))) $$ Ht; iintro Ht
  iapply (wp_asm d L (show k0_chk23 (stp tv a 1#32 (stp tv a 2#32 (stp tv a 4#32 (stp tv a 8#32 p)))) from ⟨inb_of_bd (s := 1) (by decide) (stp_bd tv a 1#32 (stp tv a 2#32 (stp tv a 4#32 (stp tv a 8#32 p))) (stp_bd tv a 2#32 (stp tv a 4#32 (stp tv a 8#32 p)) (stp_bd tv a 4#32 (stp tv a 8#32 p) (stp_bd tv a 8#32 p hp)))), inb_of_bd (s := 1) (by decide) (stp_bd tv a 1#32 (stp tv a 2#32 (stp tv a 4#32 (stp tv a 8#32 p))) (stp_bd tv a 2#32 (stp tv a 4#32 (stp tv a 8#32 p)) (stp_bd tv a 4#32 (stp tv a 8#32 p) (stp_bd tv a 8#32 p hp))))⟩))
  iapply (wp_gatF d L tv (stp tv a 1#32 (stp tv a 2#32 (stp tv a 4#32 (stp tv a 8#32 p))))) $$ Ht; iintro Ht
  iapply (wp_gatI d L ty (stp tv a 1#32 (stp tv a 2#32 (stp tv a 4#32 (stp tv a 8#32 p))))) $$ Hy; iintro Hy
  iapply (wp_load 𝒱₀ (thr d L) none Set.univ (m := uM) (S := Finset.univ) (Finset.subset_univ _)) $$ Hu; iintro Hu
  iapply Hk $$ [Ht Hy Hu]
  isplitl [Ht]; · iexact Ht
  isplitl [Hy]; · iexact Hy
  iexact Hu

theorem part8_wp {α : Type} (tv : Vec F S2048 .f32) (a : FVec F S16 .f32)
    {k : (Σ' (v133 : FVec F S16 .f32) (v165 : IVec S16 32) (v169 : IVec S16 32) (v171 : Vec F S16 .f32), IVec S16 32) → Prog (TpuEff nD τ sig (Elt F) Λ₀ (thr d L).2) α} {Q : α → sProp 𝕄} :
    tRes d L tv
      ⊢ iprop((tRes d L tv -∗ wpT d L (k ⟨hiV a, srchA tv (hiV a), (cand 128#32 (srchA tv (hiV a))), gt tv (cand 128#32 (srchA tv (hiV a))), (stp tv a 128#32 (srchA tv a))⟩) Q)
        -∗ wpT d L (at8 L a (Scalar.ofBits .f32 0x41200000#32) >>= k) Q) := by
  iintro Ht Hk
  simp only [at8, k0_part8_eq_skeleton]
  unfold k0_part8_skel
  simp only [Prog.lift, Prog.bind_assoc, Prog.bind_op, Prog.bind_ret, Prog.pure_eq_ret]
  iapply (wp_asm d L (inb_of_bd (s := 1024) (by decide) (cand_bd 1024#32 (broadcast S16 0#32) zero_bd)))
  iapply (wp_asm d L (inb_of_bd (s := 1024) (by decide) (cand_bd 1024#32 (broadcast S16 0#32) zero_bd)))
  iapply (wp_gatF d L tv (cand 1024#32 (broadcast S16 0#32))) $$ Ht; iintro Ht
  iapply (wp_gatF d L tv (cand 1024#32 (broadcast S16 0#32))) $$ Ht; iintro Ht
  iapply (wp_asm d L (inb_of_bd (s := 512) (by decide) (cand_bd 512#32 (stp tv a 1024#32 (broadcast S16 0#32)) (stp_bd tv a 1024#32 (broadcast S16 0#32) zero_bd))))
  iapply (wp_asm d L (inb_of_bd (s := 512) (by decide) (cand_bd 512#32 (stp tv (hiV a) 1024#32 (broadcast S16 0#32)) (stp_bd tv (hiV a) 1024#32 (broadcast S16 0#32) zero_bd))))
  iapply (wp_gatF d L tv (cand 512#32 (stp tv a 1024#32 (broadcast S16 0#32)))) $$ Ht; iintro Ht
  iapply (wp_gatF d L tv (cand 512#32 (stp tv (hiV a) 1024#32 (broadcast S16 0#32)))) $$ Ht; iintro Ht
  iapply (wp_asm d L (inb_of_bd (s := 256) (by decide) (cand_bd 256#32 (stp tv a 512#32 (stp tv a 1024#32 (broadcast S16 0#32))) (stp_bd tv a 512#32 (stp tv a 1024#32 (broadcast S16 0#32)) (stp_bd tv a 1024#32 (broadcast S16 0#32) zero_bd)))))
  iapply (wp_asm d L (inb_of_bd (s := 256) (by decide) (cand_bd 256#32 (stp tv (hiV a) 512#32 (stp tv (hiV a) 1024#32 (broadcast S16 0#32))) (stp_bd tv (hiV a) 512#32 (stp tv (hiV a) 1024#32 (broadcast S16 0#32)) (stp_bd tv (hiV a) 1024#32 (broadcast S16 0#32) zero_bd)))))
  iapply (wp_gatF d L tv (cand 256#32 (stp tv a 512#32 (stp tv a 1024#32 (broadcast S16 0#32))))) $$ Ht; iintro Ht
  iapply (wp_gatF d L tv (cand 256#32 (stp tv (hiV a) 512#32 (stp tv (hiV a) 1024#32 (broadcast S16 0#32))))) $$ Ht; iintro Ht
  iapply (wp_asm d L (inb_of_bd (s := 128) (by decide) (cand_bd 128#32 (stp tv a 256#32 (stp tv a 512#32 (stp tv a 1024#32 (broadcast S16 0#32)))) (stp_bd tv a 256#32 (stp tv a 512#32 (stp tv a 1024#32 (broadcast S16 0#32))) (stp_bd tv a 512#32 (stp tv a 1024#32 (broadcast S16 0#32)) (stp_bd tv a 1024#32 (broadcast S16 0#32) zero_bd))))))
  iapply (wp_asm d L (inb_of_bd (s := 128) (by decide) (cand_bd 128#32 (stp tv (hiV a) 256#32 (stp tv (hiV a) 512#32 (stp tv (hiV a) 1024#32 (broadcast S16 0#32)))) (stp_bd tv (hiV a) 256#32 (stp tv (hiV a) 512#32 (stp tv (hiV a) 1024#32 (broadcast S16 0#32))) (stp_bd tv (hiV a) 512#32 (stp tv (hiV a) 1024#32 (broadcast S16 0#32)) (stp_bd tv (hiV a) 1024#32 (broadcast S16 0#32) zero_bd))))))
  iapply (wp_gatF d L tv (cand 128#32 (stp tv a 256#32 (stp tv a 512#32 (stp tv a 1024#32 (broadcast S16 0#32)))))) $$ Ht; iintro Ht
  iapply (wp_gatF d L tv (cand 128#32 (stp tv (hiV a) 256#32 (stp tv (hiV a) 512#32 (stp tv (hiV a) 1024#32 (broadcast S16 0#32)))))) $$ Ht; iintro Ht
  iapply Hk $$ Ht

theorem part9_wp {α : Type} (tv : Vec F S2048 .f32) (a b : FVec F S16 .f32) (p r : IVec S16 32) (hp : Bd 128 p) (hr : Bd 256 r)
    {k : (Σ' (v213 : IVec S16 32) (v215 : IVec S16 32), IVec S16 32) → Prog (TpuEff nD τ sig (Elt F) Λ₀ (thr d L).2) α} {Q : α → sProp 𝕄} :
    tRes d L tv
      ⊢ iprop((tRes d L tv -∗ wpT d L (k ⟨(stp tv a 8#32 (stp tv a 16#32 (stp tv a 32#32 (stp tv a 64#32 p)))), (stp tv b 8#32 (stp tv b 16#32 (stp tv b 32#32 (stp tv b 64#32 (stp tv b 128#32 r))))), broadcast S16 4#32⟩) Q)
        -∗ wpT d L (at9 L a b r (cand 128#32 r) (gt tv (cand 128#32 r)) p >>= k) Q) := by
  iintro Ht Hk
  simp only [at9, k0_part9_eq_skeleton]
  unfold k0_part9_skel
  simp only [Prog.lift, Prog.bind_assoc, Prog.bind_op, Prog.bind_ret, Prog.pure_eq_ret]
  iapply (wp_asm d L (inb_of_bd (s := 64) (by decide) (cand_bd 64#32 p hp)))
  iapply (wp_asm d L (inb_of_bd (s := 64) (by decide) (cand_bd 64#32 (stp tv b 128#32 r) (stp_bd tv b 128#32 r hr))))
  iapply (wp_gatF d L tv (cand 64#32 p)) $$ Ht; iintro Ht
  iapply (wp_gatF d L tv (cand 64#32 (stp tv b 128#32 r))) $$ Ht; iintro Ht
  iapply (wp_asm d L (inb_of_bd (s := 32) (by decide) (cand_bd 32#32 (stp tv a 64#32 p) (stp_bd tv a 64#32 p hp))))
  iapply (wp_asm d L (inb_of_bd (s := 32) (by decide) (cand_bd 32#32 (stp tv b 64#32 (stp tv b 128#32 r)) (stp_bd tv b 64#32 (stp tv b 128#32 r) (stp_bd tv b 128#32 r hr)))))
  iapply (wp_gatF d L tv (cand 32#32 (stp tv a 64#32 p))) $$ Ht; iintro Ht
  iapply (wp_gatF d L tv (cand 32#32 (stp tv b 64#32 (stp tv b 128#32 r)))) $$ Ht; iintro Ht
  iapply (wp_asm d L (inb_of_bd (s := 16) (by decide) (cand_bd 16#32 (stp tv a 32#32 (stp tv a 64#32 p)) (stp_bd tv a 32#32 (stp tv a 64#32 p) (stp_bd tv a 64#32 p hp)))))
  iapply (wp_asm d L (inb_of_bd (s := 16) (by decide) (cand_bd 16#32 (stp tv b 32#32 (stp tv b 64#32 (stp tv b 128#32 r))) (stp_bd tv b 32#32 (stp tv b 64#32 (stp tv b 128#32 r)) (stp_bd tv b 64#32 (stp tv b 128#32 r) (stp_bd tv b 128#32 r hr))))))
  iapply (wp_gatF d L tv (cand 16#32 (stp tv a 32#32 (stp tv a 64#32 p)))) $$ Ht; iintro Ht
  iapply (wp_gatF d L tv (cand 16#32 (stp tv b 32#32 (stp tv b 64#32 (stp tv b 128#32 r))))) $$ Ht; iintro Ht
  iapply (wp_asm d L (inb_of_bd (s := 8) (by decide) (cand_bd 8#32 (stp tv a 16#32 (stp tv a 32#32 (stp tv a 64#32 p))) (stp_bd tv a 16#32 (stp tv a 32#32 (stp tv a 64#32 p)) (stp_bd tv a 32#32 (stp tv a 64#32 p) (stp_bd tv a 64#32 p hp))))))
  iapply (wp_asm d L (inb_of_bd (s := 8) (by decide) (cand_bd 8#32 (stp tv b 16#32 (stp tv b 32#32 (stp tv b 64#32 (stp tv b 128#32 r)))) (stp_bd tv b 16#32 (stp tv b 32#32 (stp tv b 64#32 (stp tv b 128#32 r))) (stp_bd tv b 32#32 (stp tv b 64#32 (stp tv b 128#32 r)) (stp_bd tv b 64#32 (stp tv b 128#32 r) (stp_bd tv b 128#32 r hr)))))))
  iapply (wp_gatF d L tv (cand 8#32 (stp tv a 16#32 (stp tv a 32#32 (stp tv a 64#32 p))))) $$ Ht; iintro Ht
  iapply (wp_gatF d L tv (cand 8#32 (stp tv b 16#32 (stp tv b 32#32 (stp tv b 64#32 (stp tv b 128#32 r)))))) $$ Ht; iintro Ht
  iapply Hk $$ Ht

theorem part10_wp {α : Type} (tv : Vec F S2048 .f32) (ty : Vec F S2048 .i32) (x y : IVec S16 32) (a b : FVec F S16 .f32) (p r : IVec S16 32) (hp : Bd 8 p) (hr : Bd 8 r)
    (h : k0_chk47 (wmax (subi y x)))
    {k : (Σ' (v243 : IVec S16 32) (v245 : IVec S16 32) (v246 : Vec F S16 .f32) (v247 : Vec F S16 .i32) (v248 : IVec S16 32) (v254 : BitVec 32) (k0_hw47 : k0_chk47 v254) (v256 : BitVec 32) (v257 : IVec S16 32), BitVec 32) → Prog (TpuEff nD τ sig (Elt F) Λ₀ (thr d L).2) α} {Q : α → sProp 𝕄} :
    iprop(tRes d L tv ∗ yRes d L ty)
      ⊢ iprop((tRes d L tv ∗ yRes d L ty -∗ wpT d L (k ⟨(stp tv a 1#32 (stp tv a 2#32 (stp tv a 4#32 p))), (stp tv b 1#32 (stp tv b 2#32 (stp tv b 4#32 r))), gt tv (stp tv a 1#32 (stp tv a 2#32 (stp tv a 4#32 p))), gt ty (stp tv a 1#32 (stp tv a 2#32 (stp tv a 4#32 p))), subi y x, wmax (subi y x), h,
            Scalar.shrsi (Scalar.addi (wmax (subi y x)) 3#32) 2#32, broadcast S16 0#32, 0#32⟩) Q)
        -∗ wpT d L (at10 L x y a b p r (broadcast S16 4#32) >>= k) Q) := by
  iintro ⟨Ht, Hy⟩ Hk
  simp only [at10, k0_part10_eq_skeleton]
  unfold k0_part10_skel
  simp only [Prog.lift, Prog.bind_assoc, Prog.bind_op, Prog.bind_ret, Prog.pure_eq_ret]
  iapply (wp_asm d L (inb_of_bd (s := 4) (by decide) (cand_bd 4#32 p hp)))
  iapply (wp_asm d L (inb_of_bd (s := 4) (by decide) (cand_bd 4#32 r hr)))
  iapply (wp_gatF d L tv (cand 4#32 p)) $$ Ht; iintro Ht
  iapply (wp_gatF d L tv (cand 4#32 r)) $$ Ht; iintro Ht
  iapply (wp_asm d L (inb_of_bd (s := 2) (by decide) (cand_bd 2#32 (stp tv a 4#32 p) (stp_bd tv a 4#32 p hp))))
  iapply (wp_asm d L (inb_of_bd (s := 2) (by decide) (cand_bd 2#32 (stp tv b 4#32 r) (stp_bd tv b 4#32 r hr))))
  iapply (wp_gatF d L tv (cand 2#32 (stp tv a 4#32 p))) $$ Ht; iintro Ht
  iapply (wp_gatF d L tv (cand 2#32 (stp tv b 4#32 r))) $$ Ht; iintro Ht
  iapply (wp_asm d L (inb_of_bd (s := 1) (by decide) (cand_bd 1#32 (stp tv a 2#32 (stp tv a 4#32 p)) (stp_bd tv a 2#32 (stp tv a 4#32 p) (stp_bd tv a 4#32 p hp)))))
  iapply (wp_asm d L (inb_of_bd (s := 1) (by decide) (cand_bd 1#32 (stp tv b 2#32 (stp tv b 4#32 r)) (stp_bd tv b 2#32 (stp tv b 4#32 r) (stp_bd tv b 4#32 r hr)))))
  iapply (wp_gatF d L tv (cand 1#32 (stp tv a 2#32 (stp tv a 4#32 p)))) $$ Ht; iintro Ht
  iapply (wp_gatF d L tv (cand 1#32 (stp tv b 2#32 (stp tv b 4#32 r)))) $$ Ht; iintro Ht
  iapply (wp_asm d L (show k0_chk46 (stp tv a 1#32 (stp tv a 2#32 (stp tv a 4#32 p))) from ⟨inb_of_bd (s := 1) (by decide) (stp_bd tv a 1#32 (stp tv a 2#32 (stp tv a 4#32 p)) (stp_bd tv a 2#32 (stp tv a 4#32 p) (stp_bd tv a 4#32 p hp))), inb_of_bd (s := 1) (by decide) (stp_bd tv a 1#32 (stp tv a 2#32 (stp tv a 4#32 p)) (stp_bd tv a 2#32 (stp tv a 4#32 p) (stp_bd tv a 4#32 p hp)))⟩))
  iapply (wp_gatF d L tv (stp tv a 1#32 (stp tv a 2#32 (stp tv a 4#32 p)))) $$ Ht; iintro Ht
  iapply (wp_gatI d L ty (stp tv a 1#32 (stp tv a 2#32 (stp tv a 4#32 p)))) $$ Hy; iintro Hy
  iapply (wp_asm d L h)
  iapply Hk $$ [Ht Hy]
  isplitl [Ht]; · iexact Ht
  iexact Hy

end Cert.Proof
-- ==== Proof.Words.lean ====
/-
  Facts of words: the largest of sixteen signed words as a running unsigned maximum of flipped words gives it, the number
  of groups of four it is rounded to, and the clamped position of an event.
-/
module

public import proofs.«01_k».proof.Proof.Spec

@[expose] public section

noncomputable section

namespace Cert.Proof

open Cert.KernelIdeal Cert.KernelIdeal.Gen
open Idealize.ShloMosaic

/-- Flipping the top bit takes the signed order to the unsigned one. -/
theorem flip_toNat (x : BitVec 32) : ((x ^^^ 2147483648#32).toNat : Int) = x.toInt + 2147483648 := by
  have hx := x.isLt
  have e : (x ^^^ 2147483648#32).toNat = x.toNat ^^^ 2147483648 := by simp
  have hd : (x.toNat ^^^ 2147483648) / 2 ^ 31 = (x.toNat / 2 ^ 31) ^^^ 1 := by
    rw [Nat.xor_div_two_pow]
  have hm : (x.toNat ^^^ 2147483648) % 2 ^ 31 = x.toNat % 2 ^ 31 := by
    rw [Nat.xor_mod_two_pow]; simp
  have hi := BitVec.toInt_eq_toNat_cond x
  rw [e]
  rcases (by omega : x.toNat / 2 ^ 31 = 0 ∨ x.toNat / 2 ^ 31 = 1) with h | h
  · rw [h] at hd
    rw [if_pos (by omega)] at hi
    have : (0 ^^^ 1 : Nat) = 1 := rfl
    omega
  · rw [h] at hd
    rw [if_neg (by omega)] at hi
    have : (1 ^^^ 1 : Nat) = 0 := rfl
    omega

theorem flip_flip (x : BitVec 32) : (x ^^^ 2147483648#32) ^^^ 2147483648#32 = x := by
  rw [BitVec.xor_assoc, BitVec.xor_self, BitVec.xor_zero]

/-- A fold of unsigned maxima is one of the words folded and at least each of them. -/
theorem foldl_maxui {ι : Type} (f : ι → BitVec 32) (l : List ι) (r : BitVec 32) :
    ((l.foldl (fun r k => IntOp.maxui r (f k)) r = r) ∨ ∃ k ∈ l, l.foldl (fun r k => IntOp.maxui r (f k)) r = f k)
      ∧ r.toNat ≤ (l.foldl (fun r k => IntOp.maxui r (f k)) r).toNat
      ∧ ∀ k ∈ l, (f k).toNat ≤ (l.foldl (fun r k => IntOp.maxui r (f k)) r).toNat := by
  induction l generalizing r with
  | nil => simp
  | cons a l ih =>
    obtain ⟨h1, h2, h3⟩ := ih (IntOp.maxui r (f a))
    have hm : (IntOp.maxui r (f a) = r ∨ IntOp.maxui r (f a) = f a) ∧ r.toNat ≤ (IntOp.maxui r (f a)).toNat ∧ (f a).toNat ≤ (IntOp.maxui r (f a)).toNat := by
      unfold IntOp.maxui
      by_cases h : (f a).ult r = true
      · rw [if_pos h]
        rw [BitVec.ult_iff_lt, BitVec.lt_def] at h
        exact ⟨.inl rfl, le_rfl, h.le⟩
      · rw [if_neg h]
        rw [BitVec.ult_iff_lt, BitVec.lt_def] at h
        exact ⟨.inr rfl, by omega, le_rfl⟩
    simp only [List.foldl_cons, List.mem_cons]
    refine ⟨?_, hm.2.1.trans h2, ?_⟩
    · rcases h1 with h1 | ⟨k, hk, h1⟩
      · rw [h1]
        rcases hm.1 with h | h
        · exact .inl h
        · exact .inr ⟨a, .inl rfl, h⟩
      · exact .inr ⟨k, .inr hk, h1⟩
    · rintro k (rfl | hk)
      · exact hm.2.2.trans h2
      · exact h3 k hk

theorem idx16 (x : S16.Idx) : x = Shape.ofLane (x 0) := by
  funext a
  obtain rfl : a = 0 := Subsingleton.elim _ _
  rfl

/-- The largest word is one of the sixteen and at least each. -/
theorem wmax_spec (w : IVec S16 32) : (∃ x, wmax w = w x) ∧ ∀ x, (w x).toInt ≤ (wmax w).toInt := by
  let f : Fin 16 → BitVec 32 := fun k => w (Shape.ofLane k) ^^^ 2147483648#32
  let l : List (Fin 16) := (List.finRange 16).filter fun k => decide (0 < k.val ∧ k.val ≤ 15)
  have e : wmax w = (l.foldl (fun r k => IntOp.maxui r (f k)) (f 0)) ^^^ 2147483648#32 := rfl
  obtain ⟨h1, h2, h3⟩ := foldl_maxui f l (f 0)
  constructor
  · rw [e]
    rcases h1 with h1 | ⟨k, -, h1⟩
    · exact ⟨_, by rw [h1]; exact flip_flip _⟩
    · exact ⟨_, by rw [h1]; exact flip_flip _⟩
  · intro x
    have hall : ∀ k : Fin 16, (f k).toNat ≤ (l.foldl (fun r k => IntOp.maxui r (f k)) (f 0)).toNat := by
      intro k
      by_cases h : k = 0
      · rw [h]; exact h2
      · refine h3 _ (List.mem_filter.2 ⟨List.mem_finRange k, ?_⟩)
        have := k.isLt
        have h0 : 0 < k.val := by
          rcases Nat.eq_zero_or_pos k.val with h0 | h0
          · exact absurd (Fin.ext h0) h
          · exact h0
        simp only [decide_eq_true_eq]
        omega
    have hx := hall (x 0)
    have a1 := flip_toNat (w x)
    have a2 := flip_toNat (wmax w)
    rw [e, flip_flip, ← e] at a2
    have a3 : f (x 0) = w x ^^^ 2147483648#32 := by
      show w (Shape.ofLane (x 0)) ^^^ _ = _
      rw [← idx16 x]
    rw [a3] at hx
    omega

/-- A window's length: a difference of two positions. -/
theorem sub_toInt (y x : BitVec 32) (hy : y.toNat + 1 ≤ 2048) (hx : x.toNat + 1 ≤ 2048) : (y - x).toInt = (y.toNat : Int) - x.toNat := by
  have hs : (y - x).toInt = (y.toInt - x.toInt).bmod (2 ^ 32) := BitVec.toInt_sub
  have h1 := BitVec.toInt_eq_toNat_cond y
  have h2 := BitVec.toInt_eq_toNat_cond x
  rw [if_pos (by omega)] at h1 h2
  rw [hs, h1, h2, Int.bmod_eq_of_le (by omega) (by omega)]

theorem wlen_toInt {y x : IVec S16 32} (hy : Bd 1 y) (hx : Bd 1 x) (i : S16.Idx) : (subi y x i).toInt = ((y i).toNat : Int) - (x i).toNat :=
  sub_toInt _ _ (hy i) (hx i)

theorem wmax_range {y x : IVec S16 32} (hy : Bd 1 y) (hx : Bd 1 x) : -2047 ≤ (wmax (subi y x)).toInt ∧ (wmax (subi y x)).toInt ≤ 2047 := by
  obtain ⟨⟨i, e⟩, -⟩ := wmax_spec (subi y x)
  have := wlen_toInt hy hx i
  have h1 := hy i
  have h2 := hx i
  rw [e, this]
  omega

theorem grp_eq (m : BitVec 32) (h : -2047 ≤ m.toInt ∧ m.toInt ≤ 2047) : grp m = ((m.toInt + 3) / 4).toNat := by
  have h1 := Affine.addi (Affine.word m) (Affine.ofNat 3 (e := 3) ⟨rfl, by decide⟩) (e := m.toInt + 3) ⟨rfl, by omega, by omega⟩
  have h2 := Affine.shrsi h1 (Affine.ofNat 2 (e := 2) ⟨rfl, by decide⟩) 2 4 (by decide) (e := (m.toInt + 3) / 4) ⟨rfl, rfl, by decide⟩
  unfold Affine.IsInt at h2
  unfold grp
  rw [h2]

theorem grp_le (m : BitVec 32) (h : -2047 ≤ m.toInt ∧ m.toInt ≤ 2047) : grp m ≤ 512 := by
  rw [grp_eq m h]; omega

/-- The position of the `j`-th event after one. -/
theorem nxt_toNat {pos : IVec S16 32} (hp : Bd 1 pos) (j : Nat) (hj : j < 4096) (x : S16.Idx) :
    (nxt pos (BitVec.ofNat 32 j) x).toNat = min ((pos x).toNat + 1 + j) 2047 := by
  have h := hp x
  have e : nxt pos (BitVec.ofNat 32 j) x = IntOp.minsi (pos x + 1#32 + BitVec.ofNat 32 j) 2047#32 := rfl
  have a1 : (pos x + 1#32 + BitVec.ofNat 32 j).toNat = (pos x).toNat + 1 + j := by
    simp only [BitVec.toNat_add, BitVec.toNat_ofNat]
    omega
  rw [e]
  unfold IntOp.minsi
  have h1 := BitVec.toInt_eq_toNat_cond (pos x + 1#32 + BitVec.ofNat 32 j)
  rw [if_pos (by omega), a1] at h1
  have h2 : (2047#32 : BitVec 32).toInt = 2047 := by decide
  by_cases hlt : (pos x + 1#32 + BitVec.ofNat 32 j).slt 2047#32 = true
  · rw [if_pos hlt, a1]
    rw [BitVec.slt_iff_toInt_lt, h1, h2] at hlt
    omega
  · rw [if_neg hlt]
    rw [BitVec.slt_iff_toInt_lt, h1, h2] at hlt
    show 2047 = _
    omega

theorem nxt_bd {pos : IVec S16 32} (hp : Bd 1 pos) (j : Nat) (hj : j < 4096) : Bd 1 (nxt pos (BitVec.ofNat 32 j)) := by
  intro x
  rw [nxt_toNat hp j hj x]
  omega

end Cert.Proof
-- ==== Proof.Scan.lean ====
/-
  The counted loops that gather the types inside the window: each trip reads four events, and the loop leaves the word of
  types as the specification computes it.
-/
module

public import proofs.«01_k».proof.Proof.Search
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (d : Dev nD) (L : grid0.Coords)

theorem lpOk (m : BitVec 32) : k0_chk47 m := by
  have h : (k0_t2_loop m).OK := by
    have := Affine.word_range (k0_t2_loop m).ub
    exact Affine.ok (Affine.ofNat 0 (e := 0) ⟨rfl, by decide⟩) (Affine.word _) (Affine.ofNat 1 (e := 1) ⟨rfl, by decide⟩) ⟨by decide, by omega⟩
  exact ⟨h, Scf.rem_ok _ _⟩

theorem lpTrips (m : BitVec 32) : (k0_t2_loop m).trips = grp m := by
  have h : (k0_t2_loop m).ub = Scalar.shrsi (Scalar.addi m 3#32) 2#32 := by
    show 0#32 + Scalar.muli (Scalar.divsi (_ - 0#32) 1#32) 1#32 = _
    rw [Scalar.muli_divsi_one, BitVec.sub_zero, BitVec.zero_add]
  show Scf.trips (k0_t2_loop m).lb (k0_t2_loop m).ub (k0_t2_loop m).st = _
  rw [h]
  show (((Scalar.shrsi (Scalar.addi m 3#32) 2#32).toInt - (0#32 : BitVec 32).toInt + (1#32 : BitVec 32).toInt - 1) / (1#32 : BitVec 32).toInt).toNat = _
  rw [show (0#32 : BitVec 32).toInt = 0 from rfl, show (1#32 : BitVec 32).toInt = 1 by decide]
  unfold grp
  congr 1
  omega

/-- The word the kernel computes for event `4k + r`. -/
theorem jword (k r : Nat) : Scalar.addi (Scalar.muli (Scf.iv 0#32 1#32 k) 4#32) (BitVec.ofNat 32 r) = BitVec.ofNat 32 (4 * k + r) := by
  show (0#32 + BitVec.ofNat 32 k * 1#32) * 4#32 + BitVec.ofNat 32 r = _
  rw [BitVec.zero_add, BitVec.mul_one, show (4#32 : BitVec 32) = BitVec.ofNat 32 4 from rfl, ← BitVec.ofNat_mul, ← BitVec.ofNat_add, Nat.mul_comm]

/-- The position read for event `4k + r` is one of the row. -/
theorem jbd {pos : IVec S16 32} (hp : Bd 1 pos) (k r : Nat) (hk : k < 512) (hr : r < 4) :
    Bd 1 (nxt pos (Scalar.addi (Scalar.muli (Scf.iv 0#32 1#32 k) 4#32) (BitVec.ofNat 32 r))) := by
  rw [jword]; exact nxt_bd hp _ (by omega)

theorem accN_four (ty : IVec S2048 32) (pos w : IVec S16 32) (k : Nat) :
    ori (ori (ori (ori (accN ty pos w (4 * k)) (bitAt ty pos w (Scalar.addi (Scalar.muli (Scf.iv 0#32 1#32 k) 4#32) 0#32)))
      (bitAt ty pos w (Scalar.addi (Scalar.muli (Scf.iv 0#32 1#32 k) 4#32) 1#32)))
      (bitAt ty pos w (Scalar.addi (Scalar.muli (Scf.iv 0#32 1#32 k) 4#32) 2#32)))
      (bitAt ty pos w (Scalar.addi (Scalar.muli (Scf.iv 0#32 1#32 k) 4#32) 3#32)) = accN ty pos w (4 * (k + 1)) := by
  rw [show (0#32 : BitVec 32) = BitVec.ofNat 32 0 from rfl]
  rw [jword k 0, jword k 1, jword k 2, jword k 3]
  rfl

/-- The loops' regions, at the task's own buffers and semaphores. -/
theorem part1_wp {α : Type} (ty : Vec F S2048 .i32) (pos w : IVec S16 32) (hp : Bd 1 pos) (m : BitVec 32) (k : Fin (k0_t2_loop m).trips) (hk : k.val < 512) (acc : IVec S16 32)
    {kk : (Σ' (v314 : BitVec 32) (v344 : IVec S16 32) (v352 : Vec F S16 .i32) (v354 : IVec S16 1), BitVec 32) → Prog (TpuEff nD τ sig (Elt F) Λ₀ (thr d L).2) α} {Q : α → sProp 𝕄} :
    yRes d L ty
      ⊢ iprop((yRes d L ty -∗ wpT d L (kk ⟨Scalar.muli (Scf.iv 0#32 1#32 k) 4#32,
            ori (ori acc (bitAt ty pos w (Scalar.addi (Scalar.muli (Scf.iv 0#32 1#32 k) 4#32) 0#32))) (bitAt ty pos w (Scalar.addi (Scalar.muli (Scf.iv 0#32 1#32 k) 4#32) 1#32)),
            gt ty (nxt pos (Scalar.addi (Scalar.muli (Scf.iv 0#32 1#32 k) 4#32) 2#32)), cmpi .slt (broadcast S16 (Scalar.addi (Scalar.muli (Scf.iv 0#32 1#32 k) 4#32) 2#32)) w, 1#32⟩) Q)
        -∗ wpT d L (at1 L pos w m 0#32 1#32 k acc >>= kk) Q) := by
  iintro Hy Hk
  simp only [at1, k0_part1_eq_skeleton]
  unfold k0_part1_skel
  simp only [Prog.lift, Prog.bind_assoc, Prog.bind_op, Prog.bind_ret, Prog.pure_eq_ret]
  iapply (wp_asm d L (inb_of_bd (s := 1) (by decide) (jbd hp k 0 hk (by decide))))
  iapply (wp_gatI d L ty (nxt pos (Scalar.addi (Scalar.muli (Scf.iv 0#32 1#32 k) 4#32) 0#32))) $$ Hy; iintro Hy
  iapply (wp_asm d L (inb_of_bd (s := 1) (by decide) (jbd hp k 1 hk (by decide))))
  iapply (wp_gatI d L ty (nxt pos (Scalar.addi (Scalar.muli (Scf.iv 0#32 1#32 k) 4#32) 1#32))) $$ Hy; iintro Hy
  iapply (wp_asm d L (inb_of_bd (s := 1) (by decide) (jbd hp k 2 hk (by decide))))
  iapply (wp_gatI d L ty (nxt pos (Scalar.addi (Scalar.muli (Scf.iv 0#32 1#32 k) 4#32) 2#32))) $$ Hy; iintro Hy
  iapply Hk $$ Hy

abbrev bd2 := k0_t2_body (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4

theorem body2_wp {α : Type} (ty : Vec F S2048 .i32) (pos w : IVec S16 32) (hp : Bd 1 pos) (m : BitVec 32) (v6 : BitVec 32) (v11 : FVec F S16 .f32) (v126 : Vec F S16 .f32) (v127 : Vec F S16 .i32) (v243 v245 : IVec S16 32) (h : k0_chk47 m) (v256 : BitVec 32) (v257 : IVec S16 32) (k : Fin (k0_t2_loop m).trips) (hk : k.val < 512)
    {kk : IVec S16 32 → Prog (TpuEff nD τ sig (Elt F) Λ₀ (thr d L).2) α} {Q : α → sProp 𝕄} :
    yRes d L ty
      ⊢ iprop((yRes d L ty -∗ wpT d L (kk (accN ty pos w (4 * (k.val + 1)))) Q)
        -∗ wpT d L (bd2 L v6 v11 pos v126 v127 v243 v245 w m h v256 v257 0#32 k (accN ty pos w (4 * k.val)) >>= kk) Q) := by
  iintro Hy Hk
  simp only [bd2]
  unfold k0_t2_body
  simp only [Prog.bind_assoc]
  iapply (part1_wp d L ty pos w hp m k hk (accN ty pos w (4 * k.val))) $$ Hy; iintro Hy
  simp only [Prog.lift, Prog.bind_assoc, Prog.bind_op, Prog.bind_ret, Prog.pure_eq_ret]
  iapply (wp_asm d L (inb_of_bd (s := 1) (by decide) (jbd hp k 3 hk (by decide))))
  iapply (wp_gatI d L ty (nxt pos (Scalar.addi (Scalar.muli (Scf.iv 0#32 1#32 k) 4#32) 3#32))) $$ Hy; iintro Hy
  rw [← accN_four ty pos w k.val]
  iapply Hk $$ Hy

/-- The loop that reads the window's types, and the loop of what is left over, which makes no trip. -/
theorem loop2_wp {α : Type} (ty : Vec F S2048 .i32) (pos w : IVec S16 32) (hp : Bd 1 pos) (m : BitVec 32) (hm : m = wmax w) (hg : grp m ≤ 512) (v6 : BitVec 32) (v11 : FVec F S16 .f32) (v126 : Vec F S16 .f32) (v127 : Vec F S16 .i32) (v243 v245 : IVec S16 32) (h : k0_chk47 m) (v256 : BitVec 32) (v257 : IVec S16 32)
    {kk : IVec S16 32 → Prog (TpuEff nD τ sig (Elt F) Λ₀ (thr d L).2) α} {Q : α → sProp 𝕄} :
    yRes d L ty
      ⊢ iprop((yRes d L ty -∗ wpT d L (kk (accV ty pos w)) Q)
        -∗ wpT d L (Scf.Loop.for (k0_t2_loop m) (k0_t2_ok m h) (broadcast S16 0#32) (bd2 L v6 v11 pos v126 v127 v243 v245 w m h v256 v257 0#32) >>= kk) Q) := by
  have ht : (k0_t2_loop m).trips = grp m := lpTrips m
  iintro Hy Hk
  iapply (Scf.wp_for_bind (I := fun k acc => iprop(⌜acc = accN ty pos w (4 * k)⌝ ∗ yRes d L ty)) (hbody := ?step)) $$ [Hy]
  case step =>
    intro k acc
    iintro ⟨%hacc, Hy⟩
    subst hacc
    rw [← Prog.bind_pure (bd2 L v6 v11 pos v126 v127 v243 v245 w m h v256 v257 0#32 k (accN ty pos w (4 * k.val)))]
    iapply (body2_wp d L ty pos w hp m v6 v11 v126 v127 v243 v245 h v256 v257 k (by have h1 := k.isLt; have h2 : Scf.trips (k0_t2_loop m).lb (k0_t2_loop m).ub (k0_t2_loop m).st = grp m := lpTrips m; omega)) $$ Hy
    iintro Hy
    simp only [Prog.pure_eq_ret, wp_ret]
    imodintro
    isplitr; · ipureintro; trivial
    iexact Hy
  · isplitr; · ipureintro; rfl
    iexact Hy
  iintro %acc ⟨%hacc, Hy⟩
  rw [show acc = accV ty pos w from by rw [hacc]; unfold accV; rw [← hm, ← ht]]
  iapply Hk $$ Hy

theorem part3_wp {α : Type} (ty : Vec F S2048 .i32) (pos w : IVec S16 32) (hp : Bd 1 pos) (m : BitVec 32) (k : Fin (k0_t4_loop m).trips) (hk : k.val < 512) (acc : IVec S16 32)
    {kk : (Σ' (v314 : BitVec 32) (v344 : IVec S16 32) (v352 : Vec F S16 .i32) (v354 : IVec S16 1), BitVec 32) → Prog (TpuEff nD τ sig (Elt F) Λ₀ (thr d L).2) α} {Q : α → sProp 𝕄} :
    yRes d L ty
      ⊢ iprop((yRes d L ty -∗ wpT d L (kk ⟨Scalar.muli (Scf.iv 0#32 1#32 k) 4#32,
            ori (ori acc (bitAt ty pos w (Scalar.addi (Scalar.muli (Scf.iv 0#32 1#32 k) 4#32) 0#32))) (bitAt ty pos w (Scalar.addi (Scalar.muli (Scf.iv 0#32 1#32 k) 4#32) 1#32)),
            gt ty (nxt pos (Scalar.addi (Scalar.muli (Scf.iv 0#32 1#32 k) 4#32) 2#32)), cmpi .slt (broadcast S16 (Scalar.addi (Scalar.muli (Scf.iv 0#32 1#32 k) 4#32) 2#32)) w, 1#32⟩) Q)
        -∗ wpT d L (at3 L pos w m 0#32 1#32 k acc >>= kk) Q) := by
  iintro Hy Hk
  simp only [at3, k0_part3_eq_skeleton]
  unfold k0_part3_skel
  simp only [Prog.lift, Prog.bind_assoc, Prog.bind_op, Prog.bind_ret, Prog.pure_eq_ret]
  iapply (wp_asm d L (inb_of_bd (s := 1) (by decide) (jbd hp k 0 hk (by decide))))
  iapply (wp_gatI d L ty (nxt pos (Scalar.addi (Scalar.muli (Scf.iv 0#32 1#32 k) 4#32) 0#32))) $$ Hy; iintro Hy
  iapply (wp_asm d L (inb_of_bd (s := 1) (by decide) (jbd hp k 1 hk (by decide))))
  iapply (wp_gatI d L ty (nxt pos (Scalar.addi (Scalar.muli (Scf.iv 0#32 1#32 k) 4#32) 1#32))) $$ Hy; iintro Hy
  iapply (wp_asm d L (inb_of_bd (s := 1) (by decide) (jbd hp k 2 hk (by decide))))
  iapply (wp_gatI d L ty (nxt pos (Scalar.addi (Scalar.muli (Scf.iv 0#32 1#32 k) 4#32) 2#32))) $$ Hy; iintro Hy
  iapply Hk $$ Hy

abbrev bd4 := k0_t4_body (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4

theorem body4_wp {α : Type} (ty : Vec F S2048 .i32) (pos w : IVec S16 32) (hp : Bd 1 pos) (m : BitVec 32) (h : k0_chk61 m) (k : Fin (k0_t4_loop m).trips) (hk : k.val < 512)
    {kk : IVec S16 32 → Prog (TpuEff nD τ sig (Elt F) Λ₀ (thr d L).2) α} {Q : α → sProp 𝕄} :
    yRes d L ty
      ⊢ iprop((yRes d L ty -∗ wpT d L (kk (accN ty pos w (4 * (k.val + 1)))) Q)
        -∗ wpT d L (bd4 L pos w m h 0#32 k (accN ty pos w (4 * k.val)) >>= kk) Q) := by
  iintro Hy Hk
  simp only [bd4]
  unfold k0_t4_body
  simp only [Prog.bind_assoc]
  iapply (part3_wp d L ty pos w hp m k hk (accN ty pos w (4 * k.val))) $$ Hy; iintro Hy
  simp only [Prog.lift, Prog.bind_assoc, Prog.bind_op, Prog.bind_ret, Prog.pure_eq_ret]
  iapply (wp_asm d L (inb_of_bd (s := 1) (by decide) (jbd hp k 3 hk (by decide))))
  iapply (wp_gatI d L ty (nxt pos (Scalar.addi (Scalar.muli (Scf.iv 0#32 1#32 k) 4#32) 3#32))) $$ Hy; iintro Hy
  rw [← accN_four ty pos w k.val]
  iapply Hk $$ Hy

/-- The loop that reads the window's types, and the loop of what is left over, which makes no trip. -/
theorem loop4_wp {α : Type} (ty : Vec F S2048 .i32) (pos w : IVec S16 32) (hp : Bd 1 pos) (m : BitVec 32) (hm : m = wmax w) (hg : grp m ≤ 512) (h : k0_chk61 m)
    {kk : IVec S16 32 → Prog (TpuEff nD τ sig (Elt F) Λ₀ (thr d L).2) α} {Q : α → sProp 𝕄} :
    yRes d L ty
      ⊢ iprop((yRes d L ty -∗ wpT d L (kk (accV ty pos w)) Q)
        -∗ wpT d L (Scf.Loop.for (k0_t4_loop m) (k0_t4_ok m h) (broadcast S16 0#32) (bd4 L pos w m h 0#32) >>= kk) Q) := by
  have ht : (k0_t4_loop m).trips = grp m := lpTrips m
  iintro Hy Hk
  iapply (Scf.wp_for_bind (I := fun k acc => iprop(⌜acc = accN ty pos w (4 * k)⌝ ∗ yRes d L ty)) (hbody := ?step)) $$ [Hy]
  case step =>
    intro k acc
    iintro ⟨%hacc, Hy⟩
    subst hacc
    rw [← Prog.bind_pure (bd4 L pos w m h 0#32 k (accN ty pos w (4 * k.val)))]
    iapply (body4_wp d L ty pos w hp m h k (by have h1 := k.isLt; have h2 : Scf.trips (k0_t4_loop m).lb (k0_t4_loop m).ub (k0_t4_loop m).st = grp m := lpTrips m; omega)) $$ Hy
    iintro Hy
    simp only [Prog.pure_eq_ret, wp_ret]
    imodintro
    isplitr; · ipureintro; trivial
    iexact Hy
  · isplitr; · ipureintro; rfl
    iexact Hy
  iintro %acc ⟨%hacc, Hy⟩
  rw [show acc = accV ty pos w from by rw [hacc]; unfold accV; rw [← hm, ← ht]]
  iapply Hk $$ Hy

end Cert.Proof
-- ==== Proof.Scatter.lean ====
/-
  The indexed stores of a group's columns: sixteen rows of one column written, every other element kept.
-/
module

public import proofs.«01_k».proof.Proof.Setup
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (d : Dev nD) (L : grid0.Coords)

/-! ## A fold of guarded writes -/

theorem foldl_keep {ι α β : Type} (P : ι → β → Prop) [∀ k j, Decidable (P k j)] (v : ι → α) (l : List ι) (f : β → α) (j : β) (h : ∀ k ∈ l, ¬ P k j) :
    l.foldl (fun g k => fun j => if P k j then v k else g j) f j = f j := by
  induction l generalizing f with
  | nil => rfl
  | cons a l ih =>
    rw [List.foldl_cons, ih _ fun k hk => h k (List.mem_cons_of_mem _ hk)]
    exact if_neg (h a List.mem_cons_self)

theorem foldl_hit {ι α β : Type} (P : ι → β → Prop) [∀ k j, Decidable (P k j)] (v : ι → α) (l : List ι) (f : β → α) (j : β) (k : ι) (hk : k ∈ l) (hP : P k j)
    (hu : ∀ k' ∈ l, P k' j → k' = k) : l.foldl (fun g k => fun j => if P k j then v k else g j) f j = v k := by
  induction l generalizing f with
  | nil => exact absurd hk List.not_mem_nil
  | cons a l ih =>
    rw [List.foldl_cons]
    by_cases hkl : k ∈ l
    · exact ih _ hkl fun k' hk' => hu k' (List.mem_cons_of_mem _ hk')
    · have hak : a = k := by
        rcases List.mem_cons.1 hk with h | h
        · exact h.symm
        · exact absurd h hkl
      rw [foldl_keep P v l _ j fun k' hk' hP' => hkl (hu k' (List.mem_cons_of_mem _ hk') hP' ▸ hk')]
      subst hak
      exact if_pos hP

/-! ## One column of sixteen rows -/

/-- The rows of the group at `b`. -/
abbrev rows (b : BitVec 32) : IVec S16 32 := addi (broadcast S16 b) (iota .scVector S16 32 [0] iota_S16_d0_w32_scVector)

theorem rows_toNat (b : BitVec 32) (hb : b.toNat ≤ 240) (k : Fin 16) : (rows b (Shape.ofLane k)).toNat = b.toNat + k.val := by
  have e : rows b (Shape.ofLane k) = b + BitVec.ofNat 32 (0 * 16 + k.val) := rfl
  rw [e, BitVec.toNat_add, BitVec.toNat_ofNat]
  have := k.isLt
  omega

theorem rows_inb (b c : BitVec 32) (hb : b.toNat ≤ 240) (hc : c.toNat < 128) :
    ∀ a x, ((![rows b, broadcast S16 c] : Fin 2 → IVec S16 32) a x).toNat < S256x128.size a := by
  intro a x
  rw [idx16 x]
  match a with
  | 0 =>
    show (rows b (Shape.ofLane (x 0))).toNat < 256
    have e := rows_toNat b hb (x 0)
    have := (x 0 : Fin 16).isLt
    exact lt_of_eq_of_lt e (by omega)
  | 1 => exact hc

/-- Column `c` of the sixteen rows from `b` set to `v`, every other element kept. -/
def put (f : Vec F S256x128 .f32) (b c : Nat) (v : FVec F S16 .f32) : Vec F S256x128 .f32 := fun j =>
  if h : (j 1).val = c ∧ b ≤ (j 0).val ∧ (j 0).val < b + 16 then v (Shape.ofLane ⟨(j 0).val - b, (by omega : (j 0).val - b < 16)⟩) else f j

theorem storeIdx_put (f : Vec F S256x128 .f32) (b c : BitVec 32) (hb : b.toNat ≤ 240) (v : FVec F S16 .f32)
    (h : ∀ a x, ((![rows b, broadcast S16 c] : Fin 2 → IVec S16 32) a x).toNat < S256x128.size a) :
    storeIdx (e := .f32) f ![rows b, broadcast S16 c] v (fun _ => 1#1) false h = put f b.toNat c.toNat v := by
  funext j
  let P : Fin 16 → S256x128.Idx → Prop := fun k j => ∀ a, (j a).val = (idxAt ![rows b, broadcast S16 c] h (Shape.ofLane k) a).val
  have hP : ∀ k j, P k j ↔ ((j 0).val = b.toNat + k.val ∧ (j 1).val = c.toNat) := by
    intro k j
    constructor
    · intro hk
      refine ⟨?_, hk 1⟩
      rw [← rows_toNat b hb k]
      exact hk 0
    · rintro ⟨h0, h1⟩ a
      match a with
      | 0 =>
        show (j 0).val = (rows b (Shape.ofLane k)).toNat
        rw [rows_toNat b hb k]; exact h0
      | 1 => exact h1
  have e : storeIdx (e := .f32) f ![rows b, broadcast S16 c] v (fun _ => 1#1) false h j
      = (List.finRange 16).foldl (fun g k => fun j => if P k j then v (Shape.ofLane k) else g j) f j := by
    unfold storeIdx
    refine congrFun (congrArg (fun G => List.foldl G f (List.finRange 16)) ?_) j
    funext g k
    refine (if_pos rfl).trans (funext fun j' => ?_)
    by_cases hh : P k j'
    · exact (if_pos hh).trans ((if_neg Bool.false_ne_true).trans (if_pos hh).symm)
    · exact (if_neg hh).trans (if_neg hh).symm
  rw [e]
  unfold put
  by_cases hj : (j 1).val = c.toNat ∧ b.toNat ≤ (j 0).val ∧ (j 0).val < b.toNat + 16
  · rw [dif_pos hj]
    refine foldl_hit P (fun k => v (Shape.ofLane k)) _ f j (⟨(j 0).val - b.toNat, by omega⟩ : Fin 16) (List.mem_finRange _) ((hP _ _).2 ⟨?_, hj.1⟩) ?_
    · show (j 0).val = b.toNat + ((j 0).val - b.toNat)
      omega
    · intro k' _ hk'
      have := ((hP _ _).1 hk').1
      apply Fin.ext
      show k'.val = (j 0).val - b.toNat
      omega
  · rw [dif_neg hj]
    refine foldl_keep P (fun k => v (Shape.ofLane k)) _ f j fun k _ hk => hj ?_
    have h0 := ((hP _ _).1 hk)
    have := k.isLt
    exact ⟨h0.2, by omega, by omega⟩

/-- An indexed store of one column of a group. -/
theorem wp_put {α : Type} (f : Vec F S256x128 .f32) (b c : BitVec 32) (hb : b.toNat ≤ 240) (v : FVec F S16 .f32)
    {h : ∀ a x, ((![rows b, broadcast S16 c] : Fin 2 → IVec S16 32) a x).toNat < S256x128.size a}
    {hs : ((aM).access (.whole S256x128)).Stores Finset.univ} {k : PUnit → Prog (TpuEff nD τ sig (Elt F) Λ₀ (thr d L).2) α} {Q : α → sProp 𝕄} :
    aRes d L f ⊢ iprop((aRes d L (put f b.toNat c.toNat v) -∗ wpT d L (k ⟨⟩) Q)
      -∗ wpT d L (SparseCore.vectorStoreIdx (aM) ![rows b, broadcast S16 c] v (fun _ => 1#1) false h hs >>= k) Q) := by
  have := SparseCore.wp_vectorStoreIdx (defs := defs₀) 𝒱₀ (thr d L) none Set.univ (base := aM) (f := f) (h := h) (hs := hs) (k := k) (Q := Q) (v := v) (mask := fun _ => 1#1) (add := false)
  rw [show (((aM).access (.whole S256x128)).read (Elt F) f) = f from Memref.read_access_whole (Elt F) cc0_scratch4 f, storeIdx_put f b c hb v h,
    show ((aM).access (.whole S256x128)).set = Finset.univ from Memref.set_access_whole cc0_scratch4,
    show ((aM).access (.whole S256x128)).write (Elt F) f (put f b.toNat c.toNat v) Finset.univ = put f b.toNat c.toNat v from Memref.write_access_whole_univ (Elt F) cc0_scratch4 f _] at this
  exact this

/-! ## A group's five columns -/

/-- The five columns of the group at `b`. -/
def putG (f : Vec F S256x128 .f32) (b : Nat) (v : Nat → FVec F S16 .f32) : Vec F S256x128 .f32 :=
  put (put (put (put (put f b 0 (v 0)) b 1 (v 1)) b 2 (v 2)) b 3 (v 3)) b 4 (v 4)

theorem putG_in (f : Vec F S256x128 .f32) (b : Nat) (v : Nat → FVec F S16 .f32) (j : S256x128.Idx) (h0 : b ≤ (j 0).val ∧ (j 0).val < b + 16) (h1 : (j 1).val < 5) :
    putG f b v j = v (j 1).val (Shape.ofLane ⟨(j 0).val - b, (by omega : (j 0).val - b < 16)⟩) := by
  unfold putG put
  rcases (by omega : (j 1).val = 0 ∨ (j 1).val = 1 ∨ (j 1).val = 2 ∨ (j 1).val = 3 ∨ (j 1).val = 4) with h | h | h | h | h <;>
    simp [h, h0.1, h0.2]

theorem putG_out (f : Vec F S256x128 .f32) (b : Nat) (v : Nat → FVec F S16 .f32) (j : S256x128.Idx) (h0 : ¬ (b ≤ (j 0).val ∧ (j 0).val < b + 16)) :
    putG f b v j = f j := by
  unfold putG put
  have : ∀ c, ¬ ((j 1).val = c ∧ b ≤ (j 0).val ∧ (j 0).val < b + 16) := fun c hc => h0 hc.2
  simp only [this, dite_false]

end Cert.Proof
-- ==== Proof.Chunk.lean ====
/-
  One chunk of a task: two groups of sixteen samples searched, their windows read, their columns stored.
-/
module

public import proofs.«01_k».proof.Proof.Scan
public import proofs.«01_k».proof.Proof.Scatter

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (d : Dev nD) (L : grid0.Coords)

theorem lpOk' (m : BitVec 32) : k0_chk61 m := lpOk m

theorem rem3_eq (m : BitVec 32) (h : k0_chk47 m) {E : Type → Type} {β : Type} (init : IVec S16 32) (body : Fin (k0_t3_loop m).trips → IVec S16 32 → Prog E (IVec S16 32)) (kk : IVec S16 32 → Prog E β) :
    (Scf.Loop.for (k0_t3_loop m) (k0_t3_ok m h) init body >>= kk) = kk init := by
  rw [show Scf.Loop.for (k0_t3_loop m) (k0_t3_ok m h) init body = .ret init from Scf.for_eq_ret _ _ _ _ _ _ (Scf.rem_trips _ _), Prog.bind_ret]

theorem rem5_eq (m : BitVec 32) (h : k0_chk61 m) {E : Type → Type} {β : Type} (init : IVec S16 32) (body : Fin (k0_t5_loop m).trips → IVec S16 32 → Prog E (IVec S16 32)) (kk : IVec S16 32 → Prog E β) :
    (Scf.Loop.for (k0_t5_loop m) (k0_t5_ok m h) init body >>= kk) = kk init := by
  rw [show Scf.Loop.for (k0_t5_loop m) (k0_t5_ok m h) init body = .ret init from Scf.for_eq_ret _ _ _ _ _ _ (Scf.rem_trips _ _), Prog.bind_ret]

theorem grpW {y x : IVec S16 32} (hy : Bd 1 y) (hx : Bd 1 x) : grp (wmax (subi y x)) ≤ 512 := grp_le _ (wmax_range hy hx)

theorem part11_wp {α : Type} (tv : Vec F S2048 .f32) (ty : Vec F S2048 .i32) (af : Vec F S256x128 .f32) (b : BitVec 32) (hb : b.toNat ≤ 240) (st : FVec F S16 .f32)
    (p r : IVec S16 32) (h : k0_chk47 (wmax (subi (srch tv (hiV st)) (srch tv st)))) (v256 : BitVec 32)
    {kk : (Σ' (v281 : IVec S16 32) (v287 : BitVec 32) (k0_hw61 : k0_chk61 v287) (v289 : BitVec 32) (v290 : IVec S16 32), BitVec 32) → Prog (TpuEff nD τ sig (Elt F) Λ₀ (thr d L).2) α} {Q : α → sProp 𝕄} :
    iprop(yRes d L ty ∗ aRes d L af)
      ⊢ iprop((yRes d L ty ∗ aRes d L (putG af b.toNat (colV tv ty st)) -∗ wpT d L (kk ⟨subi r p, wmax (subi r p), lpOk' _, Scalar.shrsi (Scalar.addi (wmax (subi r p)) 3#32) 2#32, broadcast S16 0#32, 0#32⟩) Q)
        -∗ wpT d L (at11 L b st (srch tv st) (gt tv (srch tv st)) (gt ty (srch tv st)) p r (subi (srch tv (hiV st)) (srch tv st)) (wmax (subi (srch tv (hiV st)) (srch tv st))) h v256 (broadcast S16 0#32) 0#32 >>= kk) Q) := by
  iintro ⟨Hy, Ha⟩ Hk
  simp only [at11, k0_part11_eq_skeleton]
  unfold k0_part11_skel
  simp only [Prog.lift, Prog.bind_assoc, Prog.bind_op, Prog.bind_ret, Prog.pure_eq_ret]
  iapply (loop2_wp (h := h) d L ty (srch tv st) (subi (srch tv (hiV st)) (srch tv st)) (srch_bd tv st) (wmax (subi (srch tv (hiV st)) (srch tv st))) rfl (grpW (srch_bd _ _) (srch_bd _ _))) $$ Hy; iintro Hy
  rw [rem3_eq _ h]
  iapply (wp_asm d L (rows_inb b 0#32 hb (by decide)))
  iapply (wp_put d L _ b 0#32 hb (colV tv ty st 0)) $$ Ha; iintro Ha
  iapply (wp_asm d L (rows_inb b 1#32 hb (by decide)))
  iapply (wp_put d L _ b 1#32 hb (colV tv ty st 1)) $$ Ha; iintro Ha
  iapply (wp_asm d L (rows_inb b 2#32 hb (by decide)))
  iapply (wp_put d L _ b 2#32 hb (colV tv ty st 2)) $$ Ha; iintro Ha
  iapply (wp_asm d L (rows_inb b 3#32 hb (by decide)))
  iapply (wp_put d L _ b 3#32 hb (colV tv ty st 3)) $$ Ha; iintro Ha
  iapply (wp_asm d L (rows_inb b 4#32 hb (by decide)))
  iapply (wp_put d L _ b 4#32 hb (colV tv ty st 4)) $$ Ha; iintro Ha
  iapply (wp_asm d L (lpOk' _))
  iapply Hk $$ [Hy Ha]
  isplitl [Hy]; · iexact Hy
  iexact Ha

theorem base_toNat : ∀ t : Fin k0_t1_loop.trips, (base t).toNat = 32 * t.val := by decide +kernel
theorem base16_toNat : ∀ t : Fin k0_t1_loop.trips, (Scalar.addi (base t) 16#32).toNat = 32 * t.val + 16 := by decide +kernel

abbrev bd1 := k0_t1_body (F := F) L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4

/-- What a chunk leaves in the rows buffer. -/
def chunkA (tv : Vec F S2048 .f32) (ty : Vec F S2048 .i32) (uv : Vec F S256 .f32) (first scale : Vec F S16 .f32) (t : Fin k0_t1_loop.trips) (f : Vec F S256x128 .f32) : Vec F S256x128 .f32 :=
  putG (putG f (32 * t.val) (colV tv ty (stV (uA uv t) scale first))) (32 * t.val + 16) (colV tv ty (stV (uB uv t) scale first))

theorem body1_wp (tv : Vec F S2048 .f32) (ty : Vec F S2048 .i32) (uv : Vec F S256 .f32) (v2 v3 : Vec F S16 .f32) (t : Fin k0_t1_loop.trips) (af : Vec F S256x128 .f32) {Q : Unit → sProp 𝕄} :
    iprop(tRes d L tv ∗ yRes d L ty ∗ uRes d L uv ∗ aRes d L af)
      ⊢ iprop((tRes d L tv ∗ yRes d L ty ∗ uRes d L uv ∗ aRes d L (chunkA tv ty uv v2 v3 t af) -∗ Q ⟨⟩)
        -∗ wpT d L (bd1 L v2 v3 t ⟨⟩) Q) := by
  have ht : t.val < 8 := lt_of_lt_of_eq t.isLt (by decide)
  have hb := base_toNat t
  have hb16 := base16_toNat t
  iintro ⟨Ht, Hy, Hu, Ha⟩ Hk
  simp only [bd1]
  unfold k0_t1_body
  iapply (part5_wp d L tv uv v2 v3 t) $$ [Ht Hu]
  · isplitl [Ht]; · iexact Ht
    iexact Hu
  iintro ⟨Ht, Hu⟩
  iapply (part6_wp d L tv _ _ _ _ (srchA_bd tv (stV (uA uv t) v3 v2)) (srchA_bd tv (hiV (stV (uA uv t) v3 v2)))) $$ Ht; iintro %h15 Ht
  iapply (part7_wp d L tv ty uv v2 v3 t _ (stV (uA uv t) v3 v2) (hiV (stV (uA uv t) v3 v2)) _ _
    (stp_bd tv _ 16#32 _ (stp_bd tv _ 32#32 _ (stp_bd tv _ 64#32 _ (stp_bd tv _ 128#32 _ (srchA_bd tv _)))))
    (stp_bd tv _ 16#32 _ (stp_bd tv _ 32#32 _ (stp_bd tv _ 64#32 _ (stp_bd tv _ 128#32 _ (srchA_bd tv _))))) h15) $$ [Ht Hy Hu]
  · isplitl [Ht]; · iexact Ht
    isplitl [Hy]; · iexact Hy
    iexact Hu
  iintro ⟨Ht, Hy, Hu⟩
  iapply (part8_wp d L tv (stV (uB uv t) v3 v2)) $$ Ht; iintro Ht
  iapply (part9_wp d L tv (stV (uB uv t) v3 v2) (hiV (stV (uB uv t) v3 v2)) _ _ (stp_bd tv _ 128#32 _ (srchA_bd tv _)) (srchA_bd tv _)) $$ Ht; iintro Ht
  iapply (part10_wp d L tv ty (srch tv (stV (uA uv t) v3 v2)) (srch tv (hiV (stV (uA uv t) v3 v2))) (stV (uB uv t) v3 v2) (hiV (stV (uB uv t) v3 v2)) _ _
    (stp_bd tv _ 8#32 _ (stp_bd tv _ 16#32 _ (stp_bd tv _ 32#32 _ (stp_bd tv _ 64#32 _ (stp_bd tv _ 128#32 _ (srchA_bd tv _))))))
    (stp_bd tv _ 8#32 _ (stp_bd tv _ 16#32 _ (stp_bd tv _ 32#32 _ (stp_bd tv _ 64#32 _ (stp_bd tv _ 128#32 _ (srchA_bd tv _)))))) (lpOk _)) $$ [Ht Hy]
  · isplitl [Ht]; · iexact Ht
    iexact Hy
  iintro ⟨Ht, Hy⟩
  iapply (part11_wp d L tv ty af (base t) (by omega) (stV (uA uv t) v3 v2) (srch tv (stV (uB uv t) v3 v2)) (srch tv (hiV (stV (uB uv t) v3 v2)))) $$ [Hy Ha]
  · isplitl [Hy]; · iexact Hy
    iexact Ha
  iintro ⟨Hy, Ha⟩
  simp only [Prog.lift, Prog.bind_assoc, Prog.bind_op, Prog.bind_ret, Prog.pure_eq_ret]
  iapply (loop4_wp d L ty (srch tv (stV (uB uv t) v3 v2)) (subi (srch tv (hiV (stV (uB uv t) v3 v2))) (srch tv (stV (uB uv t) v3 v2))) (srch_bd tv _) (wmax (subi (srch tv (hiV (stV (uB uv t) v3 v2))) (srch tv (stV (uB uv t) v3 v2)))) rfl (grpW (srch_bd _ _) (srch_bd _ _))) $$ Hy; iintro Hy
  rw [rem5_eq _ (lpOk' _)]
  iapply (wp_asm d L (rows_inb (Scalar.addi (base t) 16#32) 0#32 (by omega) (by decide)))
  iapply (wp_put d L _ (Scalar.addi (base t) 16#32) 0#32 (by omega) (colV tv ty (stV (uB uv t) v3 v2) 0)) $$ Ha; iintro Ha
  iapply (wp_asm d L (rows_inb (Scalar.addi (base t) 16#32) 1#32 (by omega) (by decide)))
  iapply (wp_put d L _ (Scalar.addi (base t) 16#32) 1#32 (by omega) (colV tv ty (stV (uB uv t) v3 v2) 1)) $$ Ha; iintro Ha
  iapply (wp_asm d L (rows_inb (Scalar.addi (base t) 16#32) 2#32 (by omega) (by decide)))
  iapply (wp_put d L _ (Scalar.addi (base t) 16#32) 2#32 (by omega) (colV tv ty (stV (uB uv t) v3 v2) 2)) $$ Ha; iintro Ha
  iapply (wp_asm d L (rows_inb (Scalar.addi (base t) 16#32) 3#32 (by omega) (by decide)))
  iapply (wp_put d L _ (Scalar.addi (base t) 16#32) 3#32 (by omega) (colV tv ty (stV (uB uv t) v3 v2) 3)) $$ Ha; iintro Ha
  iapply (wp_asm d L (rows_inb (Scalar.addi (base t) 16#32) 4#32 (by omega) (by decide)))
  iapply (wp_put d L _ (Scalar.addi (base t) 16#32) 4#32 (by omega) (colV tv ty (stV (uB uv t) v3 v2) 4)) $$ Ha; iintro Ha
  unfold wpT
  rw [wp_ret]
  imodintro
  rw [hb16, hb]
  iapply Hk $$ [Ht Hy Hu Ha]
  isplitl [Ht]; · iexact Ht
  isplitl [Hy]; · iexact Hy
  isplitl [Hu]; · iexact Hu
  iexact Ha

end Cert.Proof
-- ==== Proof.Tile.lean ====
/-
  A task: its four rows copied in, its eight chunks of samples, its block of rows copied out.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (d : Dev nD) (L : grid0.Coords)

/-! ## The task's own semaphores and buffers -/

abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell3 : GSem nD τ sig := (thr d L, .dma cc0_scoped3.sem)
abbrev cell4 : GSem nD τ sig := (thr d L, .dma cc0_scoped4.sem)

omit [FloatOps F] in
theorem cell_ne {a b : DmaSem sig} (h : a ≠ b) : ((thr d L, SemLoc.dma a) : GSem nD τ sig) ≠ (thr d L, SemLoc.dma b) :=
  fun e => h (by have := congrArg Prod.snd e; exact SemLoc.dma.inj this)

omit [FloatOps F] in
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ bigSep ((((((ownCells (thr d L)).erase (cell0 d L)).erase (cell1 d L)).erase (cell2 d L)).erase (cell3 d L)).erase (cell4 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩), SparseCore.bigSep_erase' (Finset.mem_erase.mpr ⟨cell_ne d L (by decide), (mem_ownCells (g := cell1 d L)).mpr ⟨rfl, by show (SemLoc.dma cc0_scoped1.sem : SemLoc sig).isScoped .scVector = true; decide⟩⟩), SparseCore.bigSep_erase' (Finset.mem_erase.mpr ⟨cell_ne d L (by decide), Finset.mem_erase.mpr ⟨cell_ne d L (by decide), (mem_ownCells (g := cell2 d L)).mpr ⟨rfl, by show (SemLoc.dma cc0_scoped2.sem : SemLoc sig).isScoped .scVector = true; decide⟩⟩⟩), SparseCore.bigSep_erase' (Finset.mem_erase.mpr ⟨cell_ne d L (by decide), Finset.mem_erase.mpr ⟨cell_ne d L (by decide), Finset.mem_erase.mpr ⟨cell_ne d L (by decide), (mem_ownCells (g := cell3 d L)).mpr ⟨rfl, by show (SemLoc.dma cc0_scoped3.sem : SemLoc sig).isScoped .scVector = true; decide⟩⟩⟩⟩), SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell4 d L)).mpr ⟨rfl, by show (SemLoc.dma cc0_scoped4.sem : SemLoc sig).isScoped .scVector = true; decide⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩), SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩), SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩), SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-! ## The rows -/

/-- The rows a task reads and the block it writes, as its program slices them. -/
abbrev rowT : Memref sig .scVector .hbm S2048 .f32 := ((ghT).slice (Rect.unit (s := S32x2048) (k0_off1 L) S1x2048.size (k0_off1_inb L)) (fun _ => rfl)).squeeze S2048 squeezes_S1x2048_S2048
abbrev rowY : Memref sig .scVector .hbm S2048 .i32 := ((ghY).slice (Rect.unit (s := S32x2048) (k0_off1 L) S1x2048.size (k0_off1_inb L)) (fun _ => rfl)).squeeze S2048 squeezes_S1x2048_S2048
abbrev rowU : Memref sig .scVector .hbm S256 .f32 := ((ghU).slice (Rect.unit (s := S32x256) (k0_off2 L) S1x256.size (k0_off2_inb L)) (fun _ => rfl)).squeeze S256 squeezes_S1x256_S256
abbrev rowF : Memref sig .scVector .hbm S32 .f32 := ((ghF).slice (Rect.unit (s := S32x32) (k0_off3 L) S1x32.size (k0_off3_inb L)) (fun _ => rfl)).squeeze S32 squeezes_S1x32_S32
abbrev rowA : Memref sig .scVector .hbm S256x128 .f32 := ((ghA).slice (Rect.unit (s := S32x256x128) (k0_off6 L) S1x256x128.size (k0_off6_inb L)) (fun _ => rfl)).squeeze S256x128 squeezes_S1x256x128_S256x128

/-- What the task is handed of the arrays. -/
abbrev rtR (g : Vec F S32x2048 .f32) : sProp 𝕄 := iprop(((rowT L).view.loc (thr d L) : Loc nD τ sig) ↦[(rowT L).view.set]{fullShare} g)
abbrev ryR (g : Vec F S32x2048 .i32) : sProp 𝕄 := iprop(((rowY L).view.loc (thr d L) : Loc nD τ sig) ↦[(rowY L).view.set]{fullShare} g)
abbrev ruR (g : Vec F S32x256 .f32) : sProp 𝕄 := iprop(((rowU L).view.loc (thr d L) : Loc nD τ sig) ↦[(rowU L).view.set]{fullShare} g)
abbrev rfR (g : Vec F S32x32 .f32) : sProp 𝕄 := iprop(((rowF L).view.loc (thr d L) : Loc nD τ sig) ↦[(rowF L).view.set]{fullShare} g)
abbrev raR (g : Vec F S32x256x128 .f32) : sProp 𝕄 := iprop(((rowA L).view.loc (thr d L) : Loc nD τ sig) ↦[(rowA L).view.set]{fullShare} g)

/-! ## What the chunks leave -/

theorem S256_pos : ∀ a, 0 < S256.size a := by decide

/-- Group `g` of the draws. -/
def u16 (uv : Vec F S256 .f32) (g : Nat) : Vec F S16 .f32 := fun x => uv fun a => ⟨(16 * g + (x 0).val) % S256.size a, Nat.mod_lt _ (S256_pos a)⟩

theorem uA_eq (uv : Vec F S256 .f32) (t : Fin k0_t1_loop.trips) : uA uv t = u16 uv (2 * t.val) := by
  have ht : t.val < 8 := lt_of_lt_of_eq t.isLt (by decide)
  funext x
  have hx : (x 0).val < 16 := (x 0).isLt
  unfold uA u16
  rw [View.readAt_apply]
  rw [show (uM).view.read (Elt F) uv = uv from View.read_whole _ _]
  congr 1; funext a; apply Fin.ext
  rw [LoadRect.idx_apply]
  obtain rfl : a = 0 := Subsingleton.elim _ _
  show k0_off4 t 0 + 1 * (x 0).val = (16 * (2 * t.val) + (x 0).val) % 256
  rw [k0_off4_eq]
  show 32 * t.val + 1 * (x 0).val = _
  omega

theorem uB_eq (uv : Vec F S256 .f32) (t : Fin k0_t1_loop.trips) : uB uv t = u16 uv (2 * t.val + 1) := by
  have ht : t.val < 8 := lt_of_lt_of_eq t.isLt (by decide)
  funext x
  have hx : (x 0).val < 16 := (x 0).isLt
  unfold uB u16
  rw [View.readAt_apply]
  rw [show (uM).view.read (Elt F) uv = uv from View.read_whole _ _]
  congr 1; funext a; apply Fin.ext
  rw [LoadRect.idx_apply]
  obtain rfl : a = 0 := Subsingleton.elim _ _
  show k0_off5 t 0 + 1 * (x 0).val = (16 * (2 * t.val + 1) + (x 0).val) % 256
  rw [k0_off5_eq]
  show 32 * t.val + 16 + 1 * (x 0).val = _
  omega

/-- Sample `s`, column `c`. -/
def cellV (tv : Vec F S2048 .f32) (ty : Vec F S2048 .i32) (uv : Vec F S256 .f32) (first scale : Vec F S16 .f32) (s c : Nat) : F .f32 :=
  colV tv ty (stV (u16 uv (s / 16)) scale first) c (Shape.ofLane (⟨s % 16, Nat.mod_lt _ (by decide)⟩ : Fin 16))

def AInv (tv : Vec F S2048 .f32) (ty : Vec F S2048 .i32) (uv : Vec F S256 .f32) (first scale : Vec F S16 .f32) (n : Nat) (a : Vec F S256x128 .f32) : Prop :=
  ∀ j : S256x128.Idx, (j 0).val < 32 * n → (j 1).val < 5 → a j = cellV tv ty uv first scale (j 0).val (j 1).val

theorem chunkA_inv (tv : Vec F S2048 .f32) (ty : Vec F S2048 .i32) (uv : Vec F S256 .f32) (first scale : Vec F S16 .f32) (t : Fin k0_t1_loop.trips) (a : Vec F S256x128 .f32)
    (h : AInv tv ty uv first scale t.val a) : AInv tv ty uv first scale (t.val + 1) (chunkA tv ty uv first scale t a) := by
  intro j h0 h1
  unfold chunkA
  by_cases hB : 32 * t.val + 16 ≤ (j 0).val ∧ (j 0).val < 32 * t.val + 16 + 16
  · rw [putG_in _ _ _ j hB h1, uB_eq]
    unfold cellV
    rw [show (j 0).val / 16 = 2 * t.val + 1 by omega]
    congr 2; apply Fin.ext; show (j 0).val - (32 * t.val + 16) = (j 0).val % 16; omega
  · rw [putG_out _ _ _ j hB]
    by_cases hA : 32 * t.val ≤ (j 0).val ∧ (j 0).val < 32 * t.val + 16
    · rw [putG_in _ _ _ j hA h1, uA_eq]
      unfold cellV
      rw [show (j 0).val / 16 = 2 * t.val by omega]
      congr 2; apply Fin.ext; show (j 0).val - (32 * t.val) = (j 0).val % 16; omega
    · rw [putG_out _ _ _ j hA]
      exact h j (by omega) h1

/-- The task's rows, and the two vectors of its sampling window. -/
abbrev tvR (g : Vec F S32x2048 .f32) : Vec F S2048 .f32 := (rowT L).view.read (Elt F) g
abbrev tyR (g : Vec F S32x2048 .i32) : Vec F S2048 .i32 := (rowY L).view.read (Elt F) g
abbrev uvR (g : Vec F S32x256 .f32) : Vec F S256 .f32 := (rowU L).view.read (Elt F) g
abbrev fvR (g : Vec F S32x32 .f32) : Vec F S32 .f32 := (rowF L).view.read (Elt F) g
abbrev firstR (g : Vec F S32x32 .f32) : Vec F S16 .f32 := (fM).view.readAt (Elt F) (Rect.unit (s := S32) ![0] S16.size inb_S32_S16_0).toLoadRect (fvR L g)
abbrev scaleR (g : Vec F S32x32 .f32) : Vec F S16 .f32 := (fM).view.readAt (Elt F) (Rect.unit (s := S32) ![16] S16.size inb_S32_S16_16).toLoadRect (fvR L g)

/-- What the task leaves in its block. -/
def Leaves (gT : Vec F S32x2048 .f32) (gY : Vec F S32x2048 .i32) (gU : Vec F S32x256 .f32) (gF : Vec F S32x32 .f32) (g : Vec F S32x256x128 .f32) : Prop :=
  ∀ j : S256x128.Idx, (j 1).val < 5 → (rowA L).view.read (Elt F) g j = cellV (tvR L gT) (tyR L gY) (uvR L gU) (firstR L gF) (scaleR L gF) (j 0).val (j 1).val

theorem tile_body (gT : Vec F S32x2048 .f32) (gY : Vec F S32x2048 .i32) (gU : Vec F S32x256 .f32) (gF : Vec F S32x32 .f32) (gA : Vec F S32x256x128 .f32)
    (hF : (K (F := F)).Facts) (O : CellTallies nD τ sig (HIx 1)) (W : Waits sig (HIx 1)) (hO : ∀ g, O g none = 0) :
    iprop(levAts (K (F := F)).L (K (F := F)).lev ∗ emp ∗ (rtR d L gT ∗ ryR d L gY ∗ ruR d L gU ∗ rfR d L gF ∗ raR d L gA)
        ∗ scopedBufs (thr d L) ∗ scopedSems0 (thr d L) ∗ owes (thr d L) O W)
      ⊢ wp frame (wpE (defs₀ (F := F)) 𝒱₀ (thr d L) none) Set.univ
          (cc0_sc_fn L ghT (Memref.isWhole_whole _) ghY (Memref.isWhole_whole _) ghU (Memref.isWhole_whole _) ghF (Memref.isWhole_whole _) ghA (Memref.isWhole_whole _) tM (Memref.isWhole_whole _) yM (Memref.isWhole_whole _) uM (Memref.isWhole_whole _) fM (Memref.isWhole_whole _) aM (Memref.isWhole_whole _) cc0_scoped0 cc0_scoped1 cc0_scoped2 cc0_scoped3 cc0_scoped4)
          fun _ => iprop((rtR d L gT ∗ ryR d L gY ∗ ruR d L gU ∗ rfR d L gF ∗ ∃ gA', ⌜Leaves L gT gY gU gF gA'⌝ ∗ raR d L gA')
            ∗ scopedBufs (thr d L) ∗ scopedSems0 (thr d L) ∗ ∃ W', ⌜∀ p ∈ W', p ∈ W ∨ p.2 = none⌝ ∗ owes (thr d L) O W') := by
  simp only [cc0_sc_fn_eq_skeleton]; unfold cc0_sc_fn_skel
  simp only [k0_part12_eq_skeleton]; unfold k0_part12_skel
  rw [(K (F := F)).scopedBufs_V hF d (cV L) (jV L), SparseCore.Cfg.scopedSems0_V (Val := Elt F) d (cV L) (jV L), ownSems0_V, ownBufs_V]
  iintro ⟨#Hlv, -, ⟨Hgt, Hgy, Hgu, Hgf, Hga⟩, ⟨⟨%t0, Ht⟩, ⟨%y0, Hy⟩, ⟨%u0, Hu⟩, ⟨%f0, Hf⟩, ⟨%a0, Ha⟩, Hbufs⟩, ⟨Hs0, Hs1, Hs2, Hs3, Hs4, Hsems⟩, HO⟩
  ihave Hmw := ((K (F := F)).mayWaits_none (thr := thr d L) hO) $$ Hlv
  ihave Ht := (Entails.of_eq (show (((thr d L).loc cc0_scratch0 ↦{fullShare} t0 : sProp 𝕄)) = tRes d L t0 from rfl)) $$ Ht
  ihave Hy := (Entails.of_eq (show (((thr d L).loc cc0_scratch1 ↦{fullShare} y0 : sProp 𝕄)) = yRes d L y0 from rfl)) $$ Hy
  ihave Hu := (Entails.of_eq (show (((thr d L).loc cc0_scratch2 ↦{fullShare} u0 : sProp 𝕄)) = uRes d L u0 from rfl)) $$ Hu
  ihave Hf := (Entails.of_eq (show (((thr d L).loc cc0_scratch3 ↦{fullShare} f0 : sProp 𝕄)) = fRes d L f0 from rfl)) $$ Hf
  ihave Ha := (Entails.of_eq (show (((thr d L).loc cc0_scratch4 ↦{fullShare} a0 : sProp 𝕄)) = aRes d L a0 from rfl)) $$ Ha
  sl_exec
  ihave Ht := (Entails.of_eq (congrArg (tRes d L) (show View.write (Elt F) tM.view t0 (tile_body.sl.dma0 L gT) Finset.univ = tvR L gT from View.write_whole_univ _ _ _))) $$ Ht
  ihave Hy := (Entails.of_eq (congrArg (yRes d L) (show View.write (Elt F) yM.view y0 (tile_body.sl.dma0_1 L gY) Finset.univ = tyR L gY from View.write_whole_univ _ _ _))) $$ Hy
  ihave Hu := (Entails.of_eq (congrArg (uRes d L) (show View.write (Elt F) uM.view u0 (tile_body.sl.dma0_2 L gU) Finset.univ = uvR L gU from View.write_whole_univ _ _ _))) $$ Hu
  rw [show View.write (Elt F) fM.view f0 (tile_body.sl.dma0_3 L gF) Finset.univ = fvR L gF from View.write_whole_univ _ _ _]
  iapply (Scf.wp_for_bind (I := fun n _ => iprop(tRes d L (tvR L gT) ∗ yRes d L (tyR L gY) ∗ uRes d L (uvR L gU)
      ∗ ∃ a, ⌜AInv (tvR L gT) (tyR L gY) (uvR L gU) (firstR L gF) (scaleR L gF) n a⌝ ∗ aRes d L a)) (hbody := ?step)) $$ [Ht Hy Hu Ha]
  case step =>
    intro t _
    iintro ⟨Ht, Hy, Hu, %a, %ha, Ha⟩
    iapply (body1_wp d L (tvR L gT) (tyR L gY) (uvR L gU) (firstR L gF) (scaleR L gF) t a) $$ [Ht Hy Hu Ha]
    · isplitl [Ht]; · iexact Ht
      isplitl [Hy]; · iexact Hy
      isplitl [Hu]; · iexact Hu
      iexact Ha
    iintro ⟨Ht, Hy, Hu, Ha⟩
    isplitl [Ht]; · iexact Ht
    isplitl [Hy]; · iexact Hy
    isplitl [Hu]; · iexact Hu
    iexists _; isplitr
    · ipureintro; exact chunkA_inv _ _ _ _ _ t a ha
    iexact Ha
  · isplitl [Ht]; · iexact Ht
    isplitl [Hy]; · iexact Hy
    isplitl [Hu]; · iexact Hu
    iexists a0; isplitr
    · ipureintro; exact fun j h => absurd h (by omega)
    iexact Ha
  iintro %_ ⟨Ht, Hy, Hu, %a, %ha, Ha⟩
  sl_exec
  sl_step
  isplitl [Hgt Hgy Hgu Hgf Hga]
  · isplitl [Hgt]; · iexact Hgt
    isplitl [Hgy]; · iexact Hgy
    isplitl [Hgu]; · iexact Hgu
    isplitl [Hgf]; · iexact Hgf
    iexists _; isplitr
    swap; · iexact Hga
    ipureintro
    intro j hj
    rw [View.read_writes_whole]
    have hj0 : (j 0).val < 256 := (j 0).isLt
    exact (show tile_body.sl.dma0_4 a j = a j from rfl).trans (ha j (show (j 0).val < 32 * 8 by omega) hj)
  isplitl [Ht Hy Hu Hf Ha Hbufs]
  · isplitl [Ht]; · iexists _; iexact Ht
    isplitl [Hy]; · iexists _; iexact Hy
    isplitl [Hu]; · iexists _; iexact Hu
    isplitl [Hf]; · iexists _; iexact Hf
    isplitl [Ha]; · iexists _; iexact Ha
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  simp only [Finset.mem_insert] at hp
  rcases hp with rfl | rfl | rfl | rfl | rfl | hp
  all_goals first | exact .inr rfl | exact .inl hp

end Cert.Proof
-- ==== Proof.Rows.lean ====
/-
The arrays dealt to the tasks by rows, and joined again: one row of each per tile.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## The tile's coordinates -/

def coordsV (c : Fin (grid0.bound 0)) (s : Fin (grid0.bound 1)) : grid0.Coords :=
  fun | 0 => c | 1 => s | ⟨_ + 2, h⟩ => absurd h (Nat.not_lt.2 (Nat.le_add_left _ _))

/-- A task's number: which SparseCore, which tile. -/
abbrev TaskIx : Type := Fin 2 × Fin 16
abbrev tk (p : TaskIx) : grid0.Coords := coordsV p.1 p.2
abbrev rowNo (p : TaskIx) : ℕ := 2 * p.2.val + p.1.val

theorem rowNo_inj {p p' : TaskIx} (h : rowNo p = rowNo p') : p = p' := by
  have h1 := p.1.isLt; have h2 := p'.1.isLt
  change 2 * p.2.val + p.1.val = 2 * p'.2.val + p'.1.val at h
  apply Prod.ext <;> apply Fin.ext <;> omega

/-- The task that does row `r`. -/
def taskOf (r : ℕ) (h : r < 32) : TaskIx := (⟨r % 2, by omega⟩, ⟨r / 2, by omega⟩)
theorem rowNo_taskOf (r : ℕ) (h : r < 32) : rowNo (taskOf r h) = r := by
  show 2 * (r / 2) + r % 2 = r; omega

theorem mem_setT (p : TaskIx) (j : S32x2048.Idx) : j ∈ (rowT (tk p)).view.set ↔ (j 0).val = rowNo p := by
  have e : (rowT (tk p)).view.set = (Rect.unit (s := S32x2048) (k0_off1 (tk p)) S1x2048.size (k0_off1_inb (tk p))).set :=
    (View.set_reshape _ _).trans (View.set_slice_whole _ _)
  rw [e, Rect.mem_set_unit, k0_off1_eq]
  have h0 : (j 0).val < 32 := (j 0).isLt
  have h1 : (j 1).val < 2048 := (j 1).isLt
  constructor
  · intro h
    have := h 0
    change rowNo p ≤ (j 0).val ∧ (j 0).val < rowNo p + 1 at this
    omega
  · intro h a
    match a with
    | 0 => show rowNo p ≤ (j 0).val ∧ (j 0).val < rowNo p + 1; omega
    | 1 => show 0 ≤ (j 1).val ∧ (j 1).val < 0 + 2048; omega

theorem mem_setY (p : TaskIx) (j : S32x2048.Idx) : j ∈ (rowY (tk p)).view.set ↔ (j 0).val = rowNo p := by
  have e : (rowY (tk p)).view.set = (Rect.unit (s := S32x2048) (k0_off1 (tk p)) S1x2048.size (k0_off1_inb (tk p))).set :=
    (View.set_reshape _ _).trans (View.set_slice_whole _ _)
  rw [e, Rect.mem_set_unit, k0_off1_eq]
  have h0 : (j 0).val < 32 := (j 0).isLt
  have h1 : (j 1).val < 2048 := (j 1).isLt
  constructor
  · intro h
    have := h 0
    change rowNo p ≤ (j 0).val ∧ (j 0).val < rowNo p + 1 at this
    omega
  · intro h a
    match a with
    | 0 => show rowNo p ≤ (j 0).val ∧ (j 0).val < rowNo p + 1; omega
    | 1 => show 0 ≤ (j 1).val ∧ (j 1).val < 0 + 2048; omega

theorem mem_setU (p : TaskIx) (j : S32x256.Idx) : j ∈ (rowU (tk p)).view.set ↔ (j 0).val = rowNo p := by
  have e : (rowU (tk p)).view.set = (Rect.unit (s := S32x256) (k0_off2 (tk p)) S1x256.size (k0_off2_inb (tk p))).set :=
    (View.set_reshape _ _).trans (View.set_slice_whole _ _)
  rw [e, Rect.mem_set_unit, k0_off2_eq]
  have h0 : (j 0).val < 32 := (j 0).isLt
  have h1 : (j 1).val < 256 := (j 1).isLt
  constructor
  · intro h
    have := h 0
    change rowNo p ≤ (j 0).val ∧ (j 0).val < rowNo p + 1 at this
    omega
  · intro h a
    match a with
    | 0 => show rowNo p ≤ (j 0).val ∧ (j 0).val < rowNo p + 1; omega
    | 1 => show 0 ≤ (j 1).val ∧ (j 1).val < 0 + 256; omega

theorem mem_setF (p : TaskIx) (j : S32x32.Idx) : j ∈ (rowF (tk p)).view.set ↔ (j 0).val = rowNo p := by
  have e : (rowF (tk p)).view.set = (Rect.unit (s := S32x32) (k0_off3 (tk p)) S1x32.size (k0_off3_inb (tk p))).set :=
    (View.set_reshape _ _).trans (View.set_slice_whole _ _)
  rw [e, Rect.mem_set_unit, k0_off3_eq]
  have h0 : (j 0).val < 32 := (j 0).isLt
  have h1 : (j 1).val < 32 := (j 1).isLt
  constructor
  · intro h
    have := h 0
    change rowNo p ≤ (j 0).val ∧ (j 0).val < rowNo p + 1 at this
    omega
  · intro h a
    match a with
    | 0 => show rowNo p ≤ (j 0).val ∧ (j 0).val < rowNo p + 1; omega
    | 1 => show 0 ≤ (j 1).val ∧ (j 1).val < 0 + 32; omega

theorem mem_setA (p : TaskIx) (j : S32x256x128.Idx) : j ∈ (rowA (tk p)).view.set ↔ (j 0).val = rowNo p := by
  have e : (rowA (tk p)).view.set = (Rect.unit (s := S32x256x128) (k0_off6 (tk p)) S1x256x128.size (k0_off6_inb (tk p))).set :=
    (View.set_reshape _ _).trans (View.set_slice_whole _ _)
  rw [e, Rect.mem_set_unit, k0_off6_eq]
  have h0 : (j 0).val < 32 := (j 0).isLt
  have h1 : (j 1).val < 256 := (j 1).isLt
  have h2 : (j 2).val < 128 := (j 2).isLt
  constructor
  · intro h
    have := h 0
    change rowNo p ≤ (j 0).val ∧ (j 0).val < rowNo p + 1 at this
    omega
  · intro h a
    match a with
    | 0 => show rowNo p ≤ (j 0).val ∧ (j 0).val < rowNo p + 1; omega
    | 1 => show 0 ≤ (j 1).val ∧ (j 1).val < 0 + 256; omega
    | 2 => show 0 ≤ (j 2).val ∧ (j 2).val < 0 + 128; omega

/-! ## Splitting the arrays -/

/-- Sets of one row each, told apart by the first coordinate. -/
theorem rows_disjoint {s : Shape} (a : Fin s.rank) (st : TaskIx → Finset s.Idx) (h : ∀ p j, j ∈ st p ↔ (j a).val = rowNo p) :
    ∀ p ∈ (Finset.univ : Finset TaskIx), ∀ p' ∈ (Finset.univ : Finset TaskIx), p ≠ p' → Disjoint (st p) (st p') := fun p _ p' _ hne =>
  Finset.disjoint_left.mpr fun j hj hj' => hne (rowNo_inj (((h p j).1 hj).symm.trans ((h p' j).1 hj')))

theorem rows_cover {s : Shape} (a : Fin s.rank) (hs : s.size a = 32) (st : TaskIx → Finset s.Idx) (h : ∀ p j, j ∈ st p ↔ (j a).val = rowNo p) :
    (Finset.univ : Finset TaskIx).biUnion st = Finset.univ := by
  ext j; simp only [Finset.mem_biUnion, Finset.mem_univ, true_and, iff_true]
  have hj : (j a).val < 32 := hs ▸ (j a).isLt
  exact ⟨taskOf _ hj, (h _ _).2 (rowNo_taskOf _ hj).symm⟩

variable (d : Dev nD)

theorem dealT (g : Vec F S32x2048 .f32) : (((T d : Thread nD τ).loc main_arg0) ↦{fullShare} g : sProp 𝕄) = bigSep Finset.univ fun p : TaskIx => rtR d (tk p) g := by
  refine Eq.trans ?_ (pointsTo_biUnion Finset.univ (ℓ := (T d : Thread nD τ).loc main_arg0) (fun p : TaskIx => (rowT (tk p)).view.set)
    (rows_disjoint (s := S32x2048) 0 _ mem_setT))
  rw [rows_cover (s := S32x2048) 0 rfl _ mem_setT]

theorem dealY (g : Vec F S32x2048 .i32) : (((T d : Thread nD τ).loc main_arg1) ↦{fullShare} g : sProp 𝕄) = bigSep Finset.univ fun p : TaskIx => ryR d (tk p) g := by
  refine Eq.trans ?_ (pointsTo_biUnion Finset.univ (ℓ := (T d : Thread nD τ).loc main_arg1) (fun p : TaskIx => (rowY (tk p)).view.set)
    (rows_disjoint (s := S32x2048) 0 _ mem_setY))
  rw [rows_cover (s := S32x2048) 0 rfl _ mem_setY]

theorem dealU (g : Vec F S32x256 .f32) : (((T d : Thread nD τ).loc main_arg3) ↦{fullShare} g : sProp 𝕄) = bigSep Finset.univ fun p : TaskIx => ruR d (tk p) g := by
  refine Eq.trans ?_ (pointsTo_biUnion Finset.univ (ℓ := (T d : Thread nD τ).loc main_arg3) (fun p : TaskIx => (rowU (tk p)).view.set)
    (rows_disjoint (s := S32x256) 0 _ mem_setU))
  rw [rows_cover (s := S32x256) 0 rfl _ mem_setU]

theorem dealF (g : Vec F S32x32 .f32) : (((T d : Thread nD τ).loc main_v12) ↦{fullShare} g : sProp 𝕄) = bigSep Finset.univ fun p : TaskIx => rfR d (tk p) g := by
  refine Eq.trans ?_ (pointsTo_biUnion Finset.univ (ℓ := (T d : Thread nD τ).loc main_v12) (fun p : TaskIx => (rowF (tk p)).view.set)
    (rows_disjoint (s := S32x32) 0 _ mem_setF))
  rw [rows_cover (s := S32x32) 0 rfl _ mem_setF]

theorem dealA (g : Vec F S32x256x128 .f32) : (((T d : Thread nD τ).loc main_v13) ↦{fullShare} g : sProp 𝕄) = bigSep Finset.univ fun p : TaskIx => raR d (tk p) g := by
  refine Eq.trans ?_ (pointsTo_biUnion Finset.univ (ℓ := (T d : Thread nD τ).loc main_v13) (fun p : TaskIx => (rowA (tk p)).view.set)
    (rows_disjoint (s := S32x256x128) 0 _ mem_setA))
  rw [rows_cover (s := S32x256x128) 0 rfl _ mem_setA]

/-! ## A task's share, and what it leaves -/

variable (gT : Vec F S32x2048 .f32) (gY : Vec F S32x2048 .i32) (gU : Vec F S32x256 .f32) (gF : Vec F S32x32 .f32) (gA : Vec F S32x256x128 .f32)

abbrev TaskIn (p : TaskIx) : sProp 𝕄 := iprop(rtR d (tk p) gT ∗ ryR d (tk p) gY ∗ ruR d (tk p) gU ∗ rfR d (tk p) gF ∗ raR d (tk p) gA)
abbrev TaskOut (p : TaskIx) : sProp 𝕄 :=
  iprop(rtR d (tk p) gT ∗ ryR d (tk p) gY ∗ ruR d (tk p) gU ∗ rfR d (tk p) gF ∗ ∃ gA' : Vec F S32x256x128 .f32, ⌜Leaves (tk p) gT gY gU gF gA'⌝ ∗ raR d (tk p) gA')

theorem leaves_congr (L : grid0.Coords) {g g' : Vec F S32x256x128 .f32} (h : ∀ i ∈ (rowA L).view.set, g' i = g i) (hg : Leaves L gT gY gU gF g) :
    Leaves L gT gY gU gF g' := fun j hj => by
  rw [← hg j hj]
  exact h _ (Finset.mem_map_of_mem _ (Finset.mem_univ j))

theorem deal_in :
    iprop((((T d : Thread nD τ).loc main_arg0) ↦{fullShare} gT) ∗ (((T d : Thread nD τ).loc main_arg1) ↦{fullShare} gY) ∗ (((T d : Thread nD τ).loc main_arg3) ↦{fullShare} gU)
        ∗ (((T d : Thread nD τ).loc main_v12) ↦{fullShare} gF) ∗ (((T d : Thread nD τ).loc main_v13) ↦{fullShare} gA))
      ⊢ (bigSep Finset.univ fun p : TaskIx => TaskIn d gT gY gU gF gA p : sProp 𝕄) := by
  rw [dealT, dealY, dealU, dealF, dealA, bigSep_sep', bigSep_sep', bigSep_sep', bigSep_sep']

include gA in
theorem blocks_join :
    (bigSep Finset.univ fun p : TaskIx => iprop(∃ g : Vec F S32x256x128 .f32, ⌜Leaves (tk p) gT gY gU gF g⌝ ∗ raR d (tk p) g))
      ⊢ (iprop(∃ g : Vec F S32x256x128 .f32, ⌜∀ p : TaskIx, Leaves (tk p) gT gY gU gF g⌝ ∗ ((T d : Thread nD τ).loc main_v13) ↦{fullShare} g) : sProp 𝕄) := by
  haveI : Nonempty (Vec F S32x256x128 .f32) := ⟨gA⟩
  refine (bigSep_exists_pi Finset.univ (fun p (g : Vec F S32x256x128 .f32) => iprop(⌜Leaves (tk p) gT gY gU gF g⌝ ∗ raR d (tk p) g))).trans ?_
  iintro ⟨%fs, H⟩
  ihave H1 := (BI.bigSep_pure_sep Finset.univ (fun p : TaskIx => Leaves (tk p) gT gY gU gF (fs p)) (fun p : TaskIx => raR d (tk p) (fs p))) $$ H
  icases H1 with ⟨%hL, Ha⟩
  ihave H' := (pointsTo_biUnion_join Finset.univ (ℓ := (T d : Thread nD τ).loc main_v13) (fun p : TaskIx => (rowA (tk p)).view.set) fs gA
    (rows_disjoint (s := S32x256x128) 0 _ mem_setA)) $$ Ha
  icases H' with ⟨%g, %hg, Hg⟩
  rw [rows_cover (s := S32x256x128) 0 rfl _ mem_setA]
  iexists g; isplitr; swap; (· iexact Hg)
  ipureintro
  exact fun p => leaves_congr gT gY gU gF (tk p) (hg p (Finset.mem_univ p)) (hL p (Finset.mem_univ p))

include gA in
theorem deal_out :
    (bigSep Finset.univ fun p : TaskIx => TaskOut d gT gY gU gF p : sProp 𝕄)
      ⊢ iprop((((T d : Thread nD τ).loc main_arg0) ↦{fullShare} gT) ∗ (((T d : Thread nD τ).loc main_arg1) ↦{fullShare} gY) ∗ (((T d : Thread nD τ).loc main_arg3) ↦{fullShare} gU)
        ∗ (((T d : Thread nD τ).loc main_v12) ↦{fullShare} gF)
        ∗ ∃ g : Vec F S32x256x128 .f32, ⌜∀ p : TaskIx, Leaves (tk p) gT gY gU gF g⌝ ∗ ((T d : Thread nD τ).loc main_v13) ↦{fullShare} g) := by
  rw [dealT, dealY, dealU, dealF, bigSep_sep', bigSep_sep', bigSep_sep', bigSep_sep']
  iintro ⟨H1, H2, H3, H4, H5⟩
  isplitl [H1]; · iexact H1
  isplitl [H2]; · iexact H2
  isplitl [H3]; · iexact H3
  isplitl [H4]; · iexact H4
  iapply (blocks_join d gT gY gU gF gA); iexact H5

end Cert.Proof
-- ==== Proof.Region.lean ====
/-
  The dense part, at one grid point: its body run over any nine whole staging buffers, what it leaves in the two
  results' buffers as a function of the seven operands' blocks; the pipeline's proof data and the region.
-/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

open Idealize.ShloMosaic.TcCoe Idealize.ShloMosaic.Tactic
open Idealize.ShloMosaic.Pipeline (Dat BodyObligation)

/-- Column `c` of a block of the tiles' rows. -/
abbrev colOf (c : ℕ) (inb : ∀ a, (![0, c] : Fin 2 → ℕ) a + S2048x1.size a ≤ S2048x128.size a) (x : Vec F S2048x128 .f32) : Vec F S2048x1 .f32 :=
  View.ld x (Rect.unit (s := S2048x128) ![0, c] S2048x1.size inb)

/-- The probabilities the body stores, of the seven operands' blocks. -/
def outP (x0 : Vec F S2048x128 .f32) (x1 : Vec F S32x256 .f32) (x2 : Vec F S1x256 .f32) (x3 : Vec F S257x256 .f32) (x4 : Vec F S1x256 .f32) (x5 : Vec F S256x32 .f32) (x6 : Vec F S1x32 .f32) : Vec F S8x256x32 .f32 :=
  k1_pay1 (k1_pay3 (colOf 1 inb_S2048x128_S2048x1_0_1 x0))
    (View.ld x3 (Rect.unit (s := S257x256) ![256, 0] S1x256.size inb_S257x256_S1x256_256_0))
    (k1_pay5 (colOf 0 inb_S2048x128_S2048x1_0_0 x0) (colOf 2 inb_S2048x128_S2048x1_0_2 x0)
      (View.ld x3 (Rect.unit (s := S257x256) ![0, 0] S256x256.size inb_S257x256_S256x256_0_0)) x1 x2) x4 x5 x6

/-- The labels it stores. -/
def outL (x0 : Vec F S2048x128 .f32) : Vec F S8x256x32 .f32 :=
  k1_pay2 (k1_pay4 (colOf 3 inb_S2048x128_S2048x1_0_3 x0) (colOf 4 inb_S2048x128_S2048x1_0_4 x0))

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 4000000 in
theorem tc_run (c : Dev nD) (i : grid1.Coords) (M0 : Memref sig .tc .vmem S2048x128 .f32) (h0 : M0.IsWhole) (M1 : Memref sig .tc .vmem S32x256 .f32) (h1 : M1.IsWhole) (M2 : Memref sig .tc .vmem S1x256 .f32) (h2 : M2.IsWhole) (M3 : Memref sig .tc .vmem S257x256 .f32) (h3 : M3.IsWhole) (M4 : Memref sig .tc .vmem S1x256 .f32) (h4 : M4.IsWhole) (M5 : Memref sig .tc .vmem S256x32 .f32) (h5 : M5.IsWhole) (M6 : Memref sig .tc .vmem S1x32 .f32) (h6 : M6.IsWhole) (M7 : Memref sig .tc .vmem S8x256x32 .f32) (h7 : M7.IsWhole) (M8 : Memref sig .tc .vmem S8x256x32 .f32) (h8 : M8.IsWhole) (x0 : Vec F S2048x128 .f32) (x1 : Vec F S32x256 .f32) (x2 : Vec F S1x256 .f32) (x3 : Vec F S257x256 .f32) (x4 : Vec F S1x256 .f32) (x5 : Vec F S256x32 .f32) (x6 : Vec F S1x32 .f32) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ X, owns (c : Thread nD τ) M7 fullShare X) ∗ (∃ X, owns (c : Thread nD τ) M8 fullShare X)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (outP x0 x1 x2 x3 x4 x5 x6) ∗ owns (c : Thread nD τ) M8 fullShare (outL x0)) -∗ Q ⟨⟩))
      ⊢ wp frame (wpE (defs₀ (F := F)) Variants.none c none) Set.univ (cc1__tc_body i M0 h0 M1 h1 M2 h2 M3 h3 M4 h4 M5 h5 M6 h6 M7 h7 M8 h8) Q := by
  simp only [cc1__tc_body_eq_skeleton, cc1__tc_body_skel, k1_part1_eq_skeleton, k1_part1_skel]
  unfold owns
  rw [h0.set_eq_univ, h1.set_eq_univ, h2.set_eq_univ, h3.set_eq_univ, h4.set_eq_univ, h5.set_eq_univ, h6.set_eq_univ, h7.set_eq_univ, h8.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%X7, %f7, -, H7⟩, ⟨%X8, %f8, -, H8⟩, Hk⟩
  subst e0 e1 e2 e3 e4 e5 e6
  sl_exec!
  sl_step
  iapply Hk
  isplitl [H0]
  · iexists f0; isplitr; swap; (· iexact H0); ipureintro; rfl
  isplitl [H1]
  · iexists f1; isplitr; swap; (· iexact H1); ipureintro; rfl
  isplitl [H2]
  · iexists f2; isplitr; swap; (· iexact H2); ipureintro; rfl
  isplitl [H3]
  · iexists f3; isplitr; swap; (· iexact H3); ipureintro; rfl
  isplitl [H4]
  · iexists f4; isplitr; swap; (· iexact H4); ipureintro; rfl
  isplitl [H5]
  · iexists f5; isplitr; swap; (· iexact H5); ipureintro; rfl
  isplitl [H6]
  · iexists f6; isplitr; swap; (· iexact H6); ipureintro; rfl
  isplitl [H7]
  · iexists _; isplitr; swap; (· iexact H7); ipureintro
    rw [View.read_writes_junk_eq_canon]
    unfold tc_run.sl.H7_1
    rw [View.canon_unit_zero zero3]
    unfold outP
    rw [View.readAt_eq_ld (M1).view, View.ld_unit_zero zero2, View.readAt_eq_ld (M2).view, View.ld_unit_zero zero2,
      View.readAt_eq_ld (M4).view, View.ld_unit_zero zero2, View.readAt_eq_ld (M5).view, View.ld_unit_zero zero2, View.readAt_eq_ld (M6).view, View.ld_unit_zero zero2]
    rfl
  · iexists _; isplitr; swap; (· iexact H8); ipureintro
    rw [View.read_writes_junk_eq_canon]
    unfold tc_run.sl.H8_1
    rw [View.canon_unit_zero zero3]
    rfl

/-! ## The proof data, at an entry valuation -/

variable (W : (c : Dev nD) → Valuation τ sig (Elt F))

/-- Operand window `w`'s block at a point, at the entry valuation. -/
abbrev stg (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The scoped buffers no window stages: this call's has none. -/
abbrev Φc (c : Dev nD) : sProp 𝕄 := Pipeline.scopedRest (Ix := HIx 1) (Name := ℕ) (U := UU) (Lvl := ℕ) (Val := Elt F) spec1 c

def dat (c : Dev nD) : Dat τ (Elt F) (HIx 1) ℕ UU ℕ cfg1 c where
  A w := W c (Proc.devRef .tc (Pipeline.arrRef spec1 w))
  after w t := match w with
    | ⟨0, _⟩ => stg W c 0 t
    | ⟨1, _⟩ => stg W c 1 t
    | ⟨2, _⟩ => stg W c 2 t
    | ⟨3, _⟩ => stg W c 3 t
    | ⟨4, _⟩ => stg W c 4 t
    | ⟨5, _⟩ => stg W c 5 t
    | ⟨6, _⟩ => stg W c 6 t
    | ⟨7, _⟩ => outP (stg W c 0 t) (stg W c 1 t) (stg W c 2 t) (stg W c 3 t) (stg W c 4 t) (stg W c 5 t) (stg W c 6 t)
    | ⟨8, _⟩ => outL (stg W c 0 t)
  Φ _ := Φc c
  q _ := fullShare
  owed _ := 0

theorem before_0 (c : Dev nD) (t : Fin cfg1.N) (d : (cfg1.win 0).block.Idx → Elt F (cfg1.win 0).elt) : (dat W c).before 0 t d = stg W c 0 t :=
  ((dat W c).before_in_eq_fetched 0 rfl (fun _ => rfl) (fun _ _ _ => rfl) (fun _ => rfl) t d).trans rfl
theorem before_1 (c : Dev nD) (t : Fin cfg1.N) (d : (cfg1.win 1).block.Idx → Elt F (cfg1.win 1).elt) : (dat W c).before 1 t d = stg W c 1 t :=
  ((dat W c).before_in_eq_fetched 1 rfl (fun _ => rfl) (fun _ _ _ => rfl) (fun _ => rfl) t d).trans rfl
theorem before_2 (c : Dev nD) (t : Fin cfg1.N) (d : (cfg1.win 2).block.Idx → Elt F (cfg1.win 2).elt) : (dat W c).before 2 t d = stg W c 2 t :=
  ((dat W c).before_in_eq_fetched 2 rfl (fun _ => rfl) (fun _ _ _ => rfl) (fun _ => rfl) t d).trans rfl
theorem before_3 (c : Dev nD) (t : Fin cfg1.N) (d : (cfg1.win 3).block.Idx → Elt F (cfg1.win 3).elt) : (dat W c).before 3 t d = stg W c 3 t :=
  ((dat W c).before_in_eq_fetched 3 rfl (fun _ => rfl) (fun _ _ _ => rfl) (fun _ => rfl) t d).trans rfl
theorem before_4 (c : Dev nD) (t : Fin cfg1.N) (d : (cfg1.win 4).block.Idx → Elt F (cfg1.win 4).elt) : (dat W c).before 4 t d = stg W c 4 t :=
  ((dat W c).before_in_eq_fetched 4 rfl (fun _ => rfl) (fun _ _ _ => rfl) (fun _ => rfl) t d).trans rfl
theorem before_5 (c : Dev nD) (t : Fin cfg1.N) (d : (cfg1.win 5).block.Idx → Elt F (cfg1.win 5).elt) : (dat W c).before 5 t d = stg W c 5 t :=
  ((dat W c).before_in_eq_fetched 5 rfl (fun _ => rfl) (fun _ _ _ => rfl) (fun _ => rfl) t d).trans rfl
theorem before_6 (c : Dev nD) (t : Fin cfg1.N) (d : (cfg1.win 6).block.Idx → Elt F (cfg1.win 6).elt) : (dat W c).before 6 t d = stg W c 6 t :=
  ((dat W c).before_in_eq_fetched 6 rfl (fun _ => rfl) (fun _ _ _ => rfl) (fun _ => rfl) t d).trans rfl

set_option maxHeartbeats 4000000 in
theorem body_obligation (c : Dev nD) : BodyObligation (dat W c) (defs₀ (F := F)) 𝒱₀ none Set.univ := fun t => by
  rw [bigSep_W1, bigSep_W1]
  dsimp only
  simp only [before_0, before_1, before_2, before_3, before_4, before_5, before_6]
  rw [show (dat W c).Φ t.castSucc = Φc c from rfl, show (dat W c).Φ t.succ = Φc c from rfl,
    show (dat W c).owesAt none t.succ = (dat W c).owesAt none t.castSucc from rfl]
  change _ ⊢ wp _ _ _ (bodyAt1 t) _
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (tc_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (stg W c 0 t) (stg W c 1 t) (stg W c 2 t) (stg W c 3 t) (stg W c 4 t) (stg W c 5 t) (stg W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The region over the thread state -/

/-- The one call takes no prefetched table. -/
abbrev adm : (p : Fin 1) → (pcfgs (F := F) p).Adm := fun p => (cfgs p).toPCfg_adm

def pdats (p : Fin 1) (c : Dev nD) : Dat τ (Elt F) (HIx 1) ℕ UU ℕ (Pipeline.pin (pcfgs (F := F)) adm p) c := dat W c

theorem level_cut : Pipeline.LevelCut (nD := nD) (τ := τ) (pcfgs (F := F)) adm none ((K (F := F)).L (nD := nD)) (K (F := F)).lev 0 (fun _ => 0) (fun _ => 0) where
  hι _ _ _ := Finset.mem_univ _
  hιb _ _ _ := le_rfl
  hD _ _ _ h := absurd h (Nat.lt_irrefl 0)

theorem reg_in (c : Dev nD) : (iprop(Pipeline.scopedRest (Pipeline.pin (pcfgs (F := F)) adm 0).spec c ∗ BI.emp) : sProp 𝕄) ⊢ (pdats W 0 c).Φ 0 := by
  rw [show (pdats W 0 c).Φ 0 = Φc c from rfl]
  iintro ⟨H, -⟩; iexact H

theorem reg_out (c : Dev nD) : (pdats W 0 c).Φ (Fin.last (Pipeline.pin (pcfgs (F := F)) adm 0).N)
    ⊢ (iprop(Pipeline.scopedRest (Pipeline.pin (pcfgs (F := F)) adm 0).spec c ∗ BI.emp) : sProp 𝕄) := by
  rw [show (pdats W 0 c).Φ (Fin.last (Pipeline.pin (pcfgs (F := F)) adm 0).N) = Φc c from rfl]
  iintro H; isplitl [H]; · iexact H
  iempintro

/-- The dense part's region, entered at a valuation and left at what the library computes of it. -/
def reg (S : Finset (DevRef τ sig)) : Pipeline.RegionSeg (pcfgs (F := F)) adm (pdats W) none defs₀ 𝒱₀ ((K (F := F)).L (nD := nD)) (K (F := F)).lev 0 :=
  Pipeline.RegionSeg.ofHeldIn (pcfgs (F := F)) adm (pdats W) none defs₀ 𝒱₀ ((K (F := F)).L (nD := nD)) (K (F := F)).lev 0 (fun _ => 0) S
    (fun _ => BI.emp) (fun _ => BI.emp) launch1.toP rfl (fun c => (body_obligation W c).loose) (fun _ _ => rfl) (fun _ => rfl)
    (fun c => (pdats W 0 c).share_full fun _ => rfl)
    (reg_in W) (reg_out W) (fun _ => 0) level_cut (fun _ => BI.emp) W (fun _ _ => rfl)

end Cert.Proof
-- ==== Proof.Run.lean ====
/-
The whole program's run: @main's host operations, the SparseCore call dealt by rows, the dense part's region, and what
every execution ends at, at any carrier.
-/
module

public import proofs.«01_k».proof.Proof.Rows
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## @main as two straight lines, a call and a region -/

abbrev hostOps0 : List (HloOp τ sig (Elt F)) := [
    StableHlo.unary main_arg0 main_v0 ((extractStridedSlice S32x1 ![0, 0] · slices_S32x2048_S32x1_0_0) : (⟨S32x2048, .f32⟩ : BufTy).Contents (Elt F) → (⟨S32x1, .f32⟩ : BufTy).Contents (Elt F)),
    StableHlo.reshape main_v0 main_v1 (rfl : (.f32 : EltTy) = .f32) shapeCasts_S32x1_S32,
    StableHlo.unary main_arg0 main_v2 ((extractStridedSlice S32x1 ![0, 2047] · slices_S32x2048_S32x1_0_2047) : (⟨S32x2048, .f32⟩ : BufTy).Contents (Elt F) → (⟨S32x1, .f32⟩ : BufTy).Contents (Elt F)),
    StableHlo.reshape main_v2 main_v3 (rfl : (.f32 : EltTy) = .f32) shapeCasts_S32x1_S32,
    StableHlo.nullary main_cst (constant S_ .f32 0x41200000#32),
    StableHlo.unary main_cst main_v4 (broadcastInDim S32 ![] bcast_S_S32 : (⟨S_, .f32⟩ : BufTy).Contents (Elt F) → (⟨S32, .f32⟩ : BufTy).Contents (Elt F)),
    StableHlo.binary main_v3 main_v4 main_v5 (subf : (⟨S32, .f32⟩ : BufTy).Contents (Elt F) → (⟨S32, .f32⟩ : BufTy).Contents (Elt F) → (⟨S32, .f32⟩ : BufTy).Contents (Elt F)),
    StableHlo.binary main_v5 main_v1 main_v6 (maximumf : (⟨S32, .f32⟩ : BufTy).Contents (Elt F) → (⟨S32, .f32⟩ : BufTy).Contents (Elt F) → (⟨S32, .f32⟩ : BufTy).Contents (Elt F)),
    StableHlo.unary main_v1 main_v7 (broadcastInDim S32x1 ![0] bcast_S32_S32x1_0 : (⟨S32, .f32⟩ : BufTy).Contents (Elt F) → (⟨S32x1, .f32⟩ : BufTy).Contents (Elt F)),
    StableHlo.unary main_v7 main_v8 (broadcastInDim S32x16 ![0, 1] bcast_S32x1_S32x16_0_1 : (⟨S32x1, .f32⟩ : BufTy).Contents (Elt F) → (⟨S32x16, .f32⟩ : BufTy).Contents (Elt F)),
    StableHlo.binary main_v6 main_v1 main_v9 (subf : (⟨S32, .f32⟩ : BufTy).Contents (Elt F) → (⟨S32, .f32⟩ : BufTy).Contents (Elt F) → (⟨S32, .f32⟩ : BufTy).Contents (Elt F)),
    StableHlo.unary main_v9 main_v10 (broadcastInDim S32x1 ![0] bcast_S32_S32x1_0 : (⟨S32, .f32⟩ : BufTy).Contents (Elt F) → (⟨S32x1, .f32⟩ : BufTy).Contents (Elt F)),
    StableHlo.unary main_v10 main_v11 (broadcastInDim S32x16 ![0, 1] bcast_S32x1_S32x16_0_1 : (⟨S32x1, .f32⟩ : BufTy).Contents (Elt F) → (⟨S32x16, .f32⟩ : BufTy).Contents (Elt F)),
    StableHlo.binary main_v8 main_v11 main_v12 ((fun a b => concatenate S32x32 1 [⟨S32x16, a⟩, ⟨S32x16, b⟩] concatenates_S32x16_S32x16_S32x32_d1) : (⟨S32x16, .f32⟩ : BufTy).Contents (Elt F) → (⟨S32x16, .f32⟩ : BufTy).Contents (Elt F) → (⟨S32x32, .f32⟩ : BufTy).Contents (Elt F))]
abbrev hostOps1 : List (HloOp τ sig (Elt F)) := [
    StableHlo.reshape main_v13 main_v14 (rfl : (.f32 : EltTy) = .f32) shapeCasts_S32x256x128_S8192x128,
    StableHlo.reshape main_arg5 main_v15 (rfl : (.f32 : EltTy) = .f32) shapeCasts_S256_S1x256,
    StableHlo.reshape main_arg7 main_v16 (rfl : (.f32 : EltTy) = .f32) shapeCasts_S256_S1x256,
    StableHlo.reshape main_arg9 main_v17 (rfl : (.f32 : EltTy) = .f32) shapeCasts_S32_S1x32]

theorem main_eq (d : Dev nD) :
    main (F := F) d = (StableHlo.seq hostOps0 >>= fun _ => sc.run d 0 >>= fun _ => StableHlo.seq hostOps1 >>= fun _ =>
      Prog.lift (.customCall (SparseCore.inner (Pipeline.entry 0)) ()) >>= fun _ => pure ⟨⟩) := by
  unfold main
  simp only [StableHlo.seq, bind_assoc, pure_bind]

theorem ops0_sub : ∀ op ∈ hostOps0 (F := F), op.bufs ⊆ Pipeline.ucRefs τ sig := by
  intro op h
  refine Pipeline.sub_ucRefs op ?_
  simp only [hostOps0, List.mem_cons, List.not_mem_nil, or_false] at h
  rcases h with rfl | rfl | rfl | rfl | rfl | rfl | rfl | rfl | rfl | rfl | rfl | rfl | rfl | rfl
  · exact StableHlo.unary_bufs_sub ..
  · exact StableHlo.reshape_bufs_sub ..
  · exact StableHlo.unary_bufs_sub ..
  · exact StableHlo.reshape_bufs_sub ..
  · exact StableHlo.nullary_bufs_sub ..
  · exact StableHlo.unary_bufs_sub ..
  · exact StableHlo.binary_bufs_sub ..
  · exact StableHlo.binary_bufs_sub ..
  · exact StableHlo.unary_bufs_sub ..
  · exact StableHlo.unary_bufs_sub ..
  · exact StableHlo.binary_bufs_sub ..
  · exact StableHlo.unary_bufs_sub ..
  · exact StableHlo.unary_bufs_sub ..
  · exact StableHlo.binary_bufs_sub ..

theorem ops1_sub : ∀ op ∈ hostOps1 (F := F), op.bufs ⊆ Pipeline.ucRefs τ sig := by
  intro op h
  refine Pipeline.sub_ucRefs op ?_
  simp only [hostOps1, List.mem_cons, List.not_mem_nil, or_false] at h
  rcases h with rfl | rfl | rfl | rfl <;> exact StableHlo.reshape_bufs_sub ..

theorem ops0_fresh : ∀ op ∈ hostOps0 (F := F), op.fresh = ∅ := by
  intro op h; (repeat (cases h with | head => rfl | tail _ h => ?_)); exact nomatch h
theorem ops1_fresh : ∀ op ∈ hostOps1 (F := F), op.fresh = ∅ := by
  intro op h; (repeat (cases h with | head => rfl | tail _ h => ?_)); exact nomatch h

/-! ## The buffers' contents, stage by stage -/

variable (m : (ℓ : Loc nD τ sig) → Buf (Elt F) ℓ) (d : Dev nD)

abbrev rf (b : Ref sig .tc) : DevRef τ sig := Proc.devRef .tc b

/-- After the host's first line. -/
def W1 : Valuation τ sig (Elt F) := StableHlo.after hostOps0 (StableHlo.launchContents m d)
/-- After the SparseCore call, which left `g` in its result. -/
def W2 (g : Vec F S32x256x128 .f32) : Valuation τ sig (Elt F) := Function.update (W1 m d) (rf main_v13) g
/-- After the host's second line. -/
def W3 (g : Vec F S32x256x128 .f32) : Valuation τ sig (Elt F) := StableHlo.after hostOps1 (W2 m d g)
/-- At the end. -/
def W4 (g : Vec F S32x256x128 .f32) : Valuation τ sig (Elt F) := Pipeline.afterRegion (pdats (fun _ => W3 m d g) 0 d) (W3 m d g)

abbrev cT : Vec F S32x2048 .f32 := W1 m d (rf main_arg0)
abbrev cY : Vec F S32x2048 .i32 := W1 m d (rf main_arg1)
abbrev cU : Vec F S32x256 .f32 := W1 m d (rf main_arg3)
abbrev cF : Vec F S32x32 .f32 := W1 m d (rf main_v12)
abbrev cA : Vec F S32x256x128 .f32 := W1 m d (rf main_v13)

/-- What the tasks leave in the call's result. -/
def Good (g : Vec F S32x256x128 .f32) : Prop := ∀ p : TaskIx, Leaves (tk p) (cT m d) (cY m d) (cU m d) (cF m d) g

/-! ## The call's five arrays out of the held ones, and back -/

def callRefs : Finset (DevRef τ sig) := {rf main_arg0, rf main_arg1, rf main_arg3, rf main_v12, rf main_v13}

theorem held_call (W : Valuation τ sig (Elt F)) : (StableHlo.held (T d) callRefs W : sProp 𝕄)
    = iprop((((T d : Thread nD τ).loc main_arg0) ↦{fullShare} (W (rf main_arg0))) ∗ (((T d : Thread nD τ).loc main_arg1) ↦{fullShare} (W (rf main_arg1)))
        ∗ (((T d : Thread nD τ).loc main_arg3) ↦{fullShare} (W (rf main_arg3))) ∗ (((T d : Thread nD τ).loc main_v12) ↦{fullShare} (W (rf main_v12)))
        ∗ (((T d : Thread nD τ).loc main_v13) ↦{fullShare} (W (rf main_v13)))) := by
  unfold StableHlo.held callRefs
  rw [SparseCore.bigSep_insert' (by decide), SparseCore.bigSep_insert' (by decide), SparseCore.bigSep_insert' (by decide), SparseCore.bigSep_insert' (by decide), bigSep_singleton]

theorem callRefs_sub : callRefs ⊆ Pipeline.ucRefs τ sig := by
  intro b hb
  simp only [callRefs, Finset.mem_insert, Finset.mem_singleton] at hb
  rcases hb with rfl | rfl | rfl | rfl | rfl <;> exact Pipeline.devRef_mem_ucRefs rfl

theorem W2_ne (g : Vec F S32x256x128 .f32) (b : DevRef τ sig) (h : b ≠ rf main_v13) : W2 m d g b = W1 m d b := Function.update_of_ne h _ _
theorem W2_at (g : Vec F S32x256x128 .f32) : W2 m d g (rf main_v13) = g := Function.update_self _ _ _

theorem held_rest (g : Vec F S32x256x128 .f32) :
    (StableHlo.held (T d) (Pipeline.ucRefs τ sig \ callRefs) (W1 m d) : sProp 𝕄) = StableHlo.held (T d) (Pipeline.ucRefs τ sig \ callRefs) (W2 m d g) :=
  StableHlo.held_congr (T d) fun b hb => (W2_ne m d g b fun e => (Finset.mem_sdiff.1 hb).2 (by rw [e]; simp [callRefs])).symm

/-! ## The launch's obligations -/

/-- What the signals hand on: each task its rows, and back. -/
def P : (K (F := F)).Pay (nD := nD) (U := UU) (Val := Elt F) (Name := ℕ) (N := 1) where
  st := fun q => match q with | 0 => fun d c => bigSep Finset.univ fun i : Fin 16 => TaskIn d (cT m d) (cY m d) (cU m d) (cF m d) (cA m d) (c, i)
  dn := fun q => match q with | 0 => fun d c => bigSep Finset.univ fun i : Fin 16 => TaskOut d (cT m d) (cY m d) (cU m d) (cF m d) (c, i)
  go := fun q => match q with | 0 => fun d c i => TaskIn d (cT m d) (cY m d) (cU m d) (cF m d) (cA m d) (c, i)
  td := fun q => match q with | 0 => fun d c i => TaskOut d (cT m d) (cY m d) (cU m d) (cF m d) (c, i)
  x := fun _ _ => iprop(emp)

instance : (P (F := F) m).IsStorable where
  st q d c := match q with
    | 0 => (inferInstance : BI.Storable (upEmb : UEmb _ 𝕄) (bigSep Finset.univ fun i : Fin 16 => TaskIn d (cT m d) (cY m d) (cU m d) (cF m d) (cA m d) (c, i)))
  dn q d c := match q with
    | 0 => (inferInstance : BI.Storable (upEmb : UEmb _ 𝕄) (bigSep Finset.univ fun i : Fin 16 => TaskOut d (cT m d) (cY m d) (cU m d) (cF m d) (c, i)))
  go q d c i := match q with
    | 0 => (inferInstance : BI.Storable (upEmb : UEmb _ 𝕄) (TaskIn d (cT m d) (cY m d) (cU m d) (cF m d) (cA m d) (c, i)))
  td q d c i := match q with
    | 0 => (inferInstance : BI.Storable (upEmb : UEmb _ 𝕄) (TaskOut d (cT m d) (cY m d) (cU m d) (cF m d) (c, i)))

theorem defs₀_vector (c : Fin τ.nSC) (s : Fin τ.nSub) :
    defs₀ (F := F) (.scVector c s) 0 ()
      = SparseCore.onTile hcore0 hsub0 (fun c s => cc0_sc_fn (coordsV c s) ghT (Memref.isWhole_whole _) ghY (Memref.isWhole_whole _) ghU (Memref.isWhole_whole _)
          ghF (Memref.isWhole_whole _) ghA (Memref.isWhole_whole _) tM (Memref.isWhole_whole _) yM (Memref.isWhole_whole _) uM (Memref.isWhole_whole _)
          fM (Memref.isWhole_whole _) aM (Memref.isWhole_whole _) cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (cT m d) (cY m d) (cU m d) (cF m d) (cA m d) hF O W hO).trans (wp_mono frame _ _ fun _ => obl_post)

theorem vecSplit : (K (F := F)).VecSplit' (P m) 0 := by
  intro d c
  show (bigSep Finset.univ fun i : Fin 16 => TaskIn d (cT m d) (cY m d) (cU m d) (cF m d) (cA m d) (c, i)) ⊢ |={Set.univ}=> iprop(
      (bigSep Finset.univ fun i : Fin 16 => TaskIn d (cT m d) (cY m d) (cU m d) (cF m d) (cA m d) (c, i))
      ∗ ((bigSep Finset.univ fun i : Fin 16 => TaskOut d (cT m d) (cY m d) (cU m d) (cF m d) (c, i))
          -∗ (bigSep Finset.univ fun i : Fin 16 => TaskOut d (cT m d) (cY m d) (cU m d) (cF m d) (c, i))))
  iintro H; imodintro
  isplitl [H]; · iexact H
  iintro H; iexact H

theorem st0_eq : (bigSep Finset.univ fun c : Fin ((K (F := F)).nCore 0) => (P m).st 0 d c)
    = bigSep Finset.univ fun p : TaskIx => TaskIn d (cT m d) (cY m d) (cU m d) (cF m d) (cA m d) p :=
  (BI.bigSep_univ_prod (fun p : TaskIx => TaskIn d (cT m d) (cY m d) (cU m d) (cF m d) (cA m d) p)).symm
theorem dn0_eq : (bigSep Finset.univ fun c : Fin ((K (F := F)).nCore 0) => (P m).dn 0 d c)
    = bigSep Finset.univ fun p : TaskIx => TaskOut d (cT m d) (cY m d) (cU m d) (cF m d) p :=
  (BI.bigSep_univ_prod (fun p : TaskIx => TaskOut d (cT m d) (cY m d) (cU m d) (cF m d) p)).symm

/-! ## The ghost state of the launch -/

def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What the launch leaves @main of a device: its staging cells' ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · ihave Hg' := (Entails.of_eq (bigSep_congr fun d _ => bigSep_univ_of_subsingleton (0 : Fin 1))) $$ Hg; iexact Hg'
    · ihave Ht' := (Entails.of_eq (bigSep_congr fun d _ => bigSep_univ_of_subsingleton (0 : Fin 1))) $$ Ht; iexact Ht'
  rw [show (fun thr : Thread nD τ => bigSep Finset.univ fun q : Fin 1 => (P (F := F) m).x q thr) = fun _ => (iprop(emp) : sProp 𝕄) from
    funext fun _ => bigSep_univ_of_subsingleton (0 : Fin 1),
    show (bigSep Finset.univ fun _ : Thread nD τ => (iprop(emp) : sProp 𝕄)) = iprop(emp) from bigSep_emp_const _]
  iempintro

/-! ## @main on the TensorCore -/

theorem unscoped_held (W : Valuation τ sig (Elt F)) :
    (unscopedBufs d (fun b => W (Proc.devRef .tc b)) : sProp 𝕄) = StableHlo.held (T d) (Pipeline.ucRefs τ sig) W := by
  unfold unscopedBufs StableHlo.held Pipeline.ucRefs StableHlo.tcRefs
  rw [Finset.filter_map, bigSep_map]; rfl

abbrev FIN (d : Dev nD) : sProp 𝕄 := iprop(∃ g : Vec F S32x256x128 .f32, ⌜Good m d g⌝ ∗ StableHlo.held (T d) (Pipeline.ucRefs τ sig) (W4 m d g))

theorem below_one (W : Waits sig (HIx 1)) : (K (F := F)).WBelow (T d : Thread nD τ) W (8 * 1) := by
  intro p _
  match p.2 with
  | none => exact Nat.zero_le _
  | some q =>
    show 8 * q.val + (K (F := F)).place _ + 1 ≤ 8 * 1
    have := (K (F := F)).place_le_six ((T d : Thread nD τ), p.1); have := q.isLt; omega

theorem arrs_sub : Pipeline.arrRefs (pcfgs (F := F) 0).spec ⊆ Pipeline.ucRefs τ sig := Pipeline.arrRefs_sub_ucRefs _ winFacts1.arr_unscoped

variable (W : (c : Dev nD) → Valuation τ sig (Elt F))

theorem reg_pre (Wd : Waits sig (HIx 1)) : iprop(StableHlo.held (T d) (Pipeline.ucRefs τ sig) (W d) ∗ owes (T d : Thread nD τ) 0 Wd)
    ⊢ (reg W (Pipeline.ucRefs τ sig)).pre d := by
  have h : iprop(StableHlo.held (T d) (Pipeline.ucRefs τ sig) (W d) ∗ ((∃ Wd, owes (T d : Thread nD τ) 0 Wd) ∗ BI.emp ∗ BI.emp))
      ⊢ (reg W (Pipeline.ucRefs τ sig)).pre d := by
    unfold reg
    exact Pipeline.RegionSeg.ofHeldIn_pre (D := fun _ => 0) (X := fun _ => BI.emp) (R := fun _ => BI.emp) (W := W) arrs_sub d
  iintro ⟨Hheld, HO⟩
  iapply h
  isplitl [Hheld]; · iexact Hheld
  isplitl [HO]; · iexists Wd; iexact HO
  isplitr <;> iempintro

theorem reg_post : (reg W (Pipeline.ucRefs τ sig)).post d
    ⊢ iprop(StableHlo.held (T d) (Pipeline.ucRefs τ sig) (Pipeline.afterRegion (pdats W 0 d) (W d)) ∗ ∃ Wd, owes (T d : Thread nD τ) 0 Wd) := by
  have h : (reg W (Pipeline.ucRefs τ sig)).post d
      ⊢ iprop(StableHlo.held (T d) (Pipeline.ucRefs τ sig) (Pipeline.afterRegion (pdats W 0 d) (W d)) ∗ ((∃ Wd, owes (T d : Thread nD τ) 0 Wd) ∗ BI.emp ∗ BI.emp)) :=
    Pipeline.RegionSeg.ofHeldIn_post arrs_sub d
  iintro H
  ihave H := h $$ H
  icases H with ⟨Hheld, HO, -⟩
  isplitl [Hheld]; · iexact Hheld
  iexact HO

def regProg : Prog (TpuEff nD τ sig (Elt F) (ΛP (F := F)) .tc) PUnit := .op (.customCall (Pipeline.entry 0) ()) fun _ => .ret ⟨⟩

theorem region_prog : (Prog.lift (.customCall (SparseCore.inner (Pipeline.entry 0)) ()) : Prog (TpuEff nD τ sig (Elt F) (SparseCore.Sig (ΛP (F := F)) 1) .tc) PUnit)
    = SparseCore.liftProg (regProg (F := F)) := rfl

theorem region_lift (Q : PUnit → sProp 𝕄) : wp frame (wpE (D (F := F)) 𝒱 (T d) none) Set.univ (regProg (F := F)) Q
    ⊢ wp frame (wpE ((K (F := F)).defs (D (F := F))) 𝒱 (T d) none) Set.univ (SparseCore.liftProg (regProg (F := F))) Q :=
  (K (F := F)).wp_liftProg (D (F := F)) 𝒱 (T d) Set.univ none regProg Q

theorem region_wp [∀ e, Nonempty (Elt F e)] (Q : PUnit → sProp 𝕄) :
    iprop((iprop(boundary (T d) ∗ (reg W (Pipeline.ucRefs τ sig)).post d) -∗ wp frame (wpE (D (F := F)) 𝒱 (T d) none) Set.univ (.ret ⟨⟩) Q)
        ∗ boundary (T d) ∗ (reg W (Pipeline.ucRefs τ sig)).pre d ∗ levAts ((K (F := F)).L (nD := nD)) (K (F := F)).lev ∗ G d)
      ⊢ wp frame (wpE (D (F := F)) 𝒱 (T d) none) Set.univ (regProg (F := F)) Q := by
  unfold regProg G
  exact Pipeline.RegionSeg.wp (pcfgs (F := F)) adm (pdats W) none cellOf_inj EP defs₀ 𝒱₀ ((K (F := F)).L (nD := nD)) (K (F := F)).lev (p := 0)
    (reg W (Pipeline.ucRefs τ sig)) d none (fun _ h => absurd h (Option.not_mem_none _)) (α := PUnit) (fun _ => .ret ⟨⟩) Q

/-- The dense part, from the buffers held at a valuation, to them at what the region leaves of it. -/
theorem region_run [∀ e, Nonempty (Elt F e)] (Wd : Waits sig (HIx 1)) (Q : PUnit → sProp 𝕄) :
    iprop((iprop(boundary (T d) ∗ StableHlo.held (T d) (Pipeline.ucRefs τ sig) (Pipeline.afterRegion (pdats W 0 d) (W d)) ∗ (∃ Wd, owes (T d : Thread nD τ) 0 Wd)) -∗ Q ⟨⟩)
        ∗ boundary (T d) ∗ StableHlo.held (T d) (Pipeline.ucRefs τ sig) (W d) ∗ owes (T d : Thread nD τ) 0 Wd ∗ levAts (K (F := F)).L (K (F := F)).lev ∗ G d)
      ⊢ wp frame (wpE ((K (F := F)).defs (D (F := F))) 𝒱 (T d) none) Set.univ (Prog.lift (.customCall (SparseCore.inner (Pipeline.entry 0)) ())) Q := by
  rw [region_prog]
  iintro ⟨Hk, Hb, Hheld, HO, Hlv, HG⟩
  iapply (region_lift d Q)
  iapply (region_wp d W Q)
  isplitl [Hk]
  · iintro ⟨Hb, Hpost⟩
    ihave Hp := (reg_post d W) $$ Hpost
    icases Hp with ⟨Hheld, HO⟩
    rw [wp_ret]; imodintro
    iapply Hk
    isplitl [Hb]; · iexact Hb
    isplitl [Hheld]; · iexact Hheld
    iexact HO
  isplitl [Hb]; · iexact Hb
  isplitl [Hheld HO]
  · iapply (reg_pre d W Wd)
    isplitl [Hheld]; · iexact Hheld
    iexact HO
  isplitl [Hlv]; · iexact Hlv
  iexact HG

set_option maxHeartbeats 1000000 in
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((T d : Thread nD τ).loc b)) : sProp 𝕄) = _ from unscoped_held d (StableHlo.launchContents m d)]
  iintro ⟨#Hctx, Hst, ⟨Hb, Hheld, Hts, -⟩, HG⟩
  iapply (StableHlo.wp_seq 𝒱 none Set.univ d (Pipeline.ucRefs τ sig) _ hostOps0 ops0_sub ops0_fresh (StableHlo.launchContents m d)) $$ [Hb Hheld]
  · isplitl [Hb]; · iexact Hb
    iexact Hheld
  iintro ⟨Hb, Hheld⟩
  rw [show StableHlo.after hostOps0 (StableHlo.launchContents m d) = W1 m d from rfl]
  ihave Hh := (Entails.of_eq (StableHlo.held_sub_split (T d) callRefs_sub (W1 m d))) $$ Hheld
  icases Hh with ⟨Hcall, Hrest⟩
  ihave Hcall := (Entails.of_eq (held_call d (W1 m d))) $$ Hcall
  rw [wp_bind]
  iapply ((K (F := F)).wp_run (D (F := F)) 𝒱 (EH := EH) (P := P m) κ d 0) $$ [Hst Hcall Hrest Hb Hts HG]
  isplitr; · iexact Hctx
  isplitl [Hst]; · iexact Hst
  isplitl [Hcall]
  · rw [st0_eq]
    iapply (deal_in d (cT m d) (cY m d) (cU m d) (cF m d) (cA m d)); iexact Hcall
  iintro ⟨Hst, Hdn⟩
  ihave Hdn := (Entails.of_eq (dn0_eq m d)) $$ Hdn
  ihave Hdn := (deal_out d (cT m d) (cY m d) (cU m d) (cF m d) (cA m d)) $$ Hdn
  icases Hdn with ⟨H0, H1, H3, H12, ⟨%g, %hg, H13⟩⟩
  ihave Hcall := (Entails.of_eq (held_call d (W2 m d g)).symm) $$ [H0 H1 H3 H12 H13]
  · rw [W2_ne m d g (rf main_arg0) (by decide), W2_ne m d g (rf main_arg1) (by decide), W2_ne m d g (rf main_arg3) (by decide), W2_ne m d g (rf main_v12) (by decide), W2_at]
    isplitl [H0]; · iexact H0
    isplitl [H1]; · iexact H1
    isplitl [H3]; · iexact H3
    isplitl [H12]; · iexact H12
    iexact H13
  ihave Hrest := (Entails.of_eq (held_rest m d g)) $$ Hrest
  ihave Hheld := (Entails.of_eq (StableHlo.held_sub_split (T d) callRefs_sub (W2 m d g)).symm) $$ [Hcall Hrest]
  · isplitl [Hcall]; · iexact Hcall
    iexact Hrest
  iapply (StableHlo.wp_seq 𝒱 none Set.univ d (Pipeline.ucRefs τ sig) _ hostOps1 ops1_sub ops1_fresh (W2 m d g)) $$ [Hb Hheld]
  · isplitl [Hb]; · iexact Hb
    iexact Hheld
  iintro ⟨Hb, Hheld⟩
  rw [show StableHlo.after hostOps1 (W2 m d g) = W3 m d g from rfl]
  ihave Hlv := (SparseCore.Cfg.ctx_levAts κ) $$ Hctx
  rw [show ((0 : Fin 1).val + 1) = 1 from rfl]
  unfold SparseCore.Cfg.tcSt
  icases Hst with ⟨⟨%Wd, %hWd, HO⟩, Hst⟩
  rw [(K (F := F)).Otc_end d (n := 1) le_rfl]
  rw [wp_bind]
  iapply (region_run d (fun _ => W3 m d g) Wd _)
  isplitr [Hb Hheld HO Hlv HG]
  · iintro ⟨Hb, Hheld, ⟨%Wd', HO⟩⟩
    rw [wp_pure]; imodintro
    isplitl [HO Hst]
    · isplitl [HO]
      · iexists Wd'; isplitr; swap; (· iexact HO)
        ipureintro; exact below_one d Wd'
      iexact Hst
    isplitl [Hheld]
    · iexists g; isplitr; swap; (· iexact Hheld)
      ipureintro; exact hg
    isplitl [Hb]; · iexact Hb
    iexact Hts
  isplitl [Hb]; · iexact Hb
  isplitl [Hheld]; · iexact Hheld
  isplitl [HO]; · iexact HO
  isplitl [Hlv]; · iexact Hlv
  iexact HG

/-! ## The program's run -/

def fq (d : Dev nD) (s' : Phys nD τ sig (Elt F)) : Prop :=
  ∃ g : Vec F S32x256x128 .f32, Good m d g ∧ ∀ b ∈ Pipeline.ucRefs τ sig, s'.mem.mem (d, b) = W4 m d g b

theorem hfin (d : Dev nD) (s' : Phys nD τ sig (Elt F)) : iprop(FIN m d ∗ SI s') ⊢ (⌜fq m d s'⌝ : sProp 𝕄) := by
  iintro ⟨⟨%g, %hg, H⟩, HSI⟩
  unfold StableHlo.held
  ihave %h := (SI_pointsTo_bufs_agree (qs := fun _ => fullShare) (Pipeline.ucRefs τ sig)) $$ [HSI H]
  · isplitl [HSI]; · iexact HSI
    iexact H
  ipureintro
  exact ⟨g, hg, fun b hb => h b hb⟩

/-- Every execution ends, its buffers at `W4` of contents the tasks leave, and every counter at zero. -/
theorem run_all [∀ e, Nonempty (Elt F e)] (ρ : Dev nD → PrngReg) :
    θ_run (Cert.KernelIdeal.defs (F := F)) (Cert.KernelIdeal.threads (F := F)) ⟨m, fun _ => 0, ρ⟩
      (fun r => (∀ d : Dev nD, ∃ g : Vec F S32x256x128 .f32, Good m d g ∧ ∀ b ∈ Pipeline.ucRefs τ sig, r.2.mem (d, b) = W4 m d g b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h hz => ⟨h, hz⟩)

end Cert.Proof
-- ==== Proof.Frames.lean ====
/-
The arguments are left alone: the runs' claims about the kernel, its idealization and the reference.
-/
module

public import proofs.«01_k».proof.Proof.Run
public import proofs.«01_k».proof.Proof.Gen.ReferenceIdeal.Run
public import proofs.«01_k».proof.Proof.Gen.Kernel
public import proofs.«01_k».proof.Defs

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ) (d : Dev nD)

/-- What the host's first line writes. -/
abbrev host0W : List (Ref sig .tc) :=
  [main_v0, main_v1, main_v2, main_v3, main_cst, main_v4, main_v5, main_v6, main_v7, main_v8, main_v9, main_v10, main_v11, main_v12]

/-- What the host's second line writes. -/
abbrev host1W : List (Ref sig .tc) := [main_v14, main_v15, main_v16, main_v17]

theorem host0_writes (V : Valuation τ sig (Elt F)) (r : Ref sig .tc) (h : r ∉ host0W) : StableHlo.after (hostOps0 (F := F)) V (rf r) = V (rf r) :=
  StableHlo.after_of_writes_sub (W := host0W) _ _ (StableHlo.forall_writes_sub_of_map rfl) h

theorem host1_writes (V : Valuation τ sig (Elt F)) (r : Ref sig .tc) (h : r ∉ host1W) : StableHlo.after (hostOps1 (F := F)) V (rf r) = V (rf r) :=
  StableHlo.after_of_writes_sub (W := host1W) _ _ (StableHlo.forall_writes_sub_of_map rfl) h

/-- A buffer that neither of the host's lines writes, not the call's result, and no result of the region, ends as it was. -/
theorem W4_keeps (g : Vec F S32x256x128 .f32) (r : Ref sig .tc) (h : ∀ w, Pipeline.arrRef cfg1.spec w = r → (cfg1.win w).isOut = false)
    (h1 : r ∉ host1W) (h13 : r ≠ main_v13) (h0 : r ∉ host0W) :
    W4 m d g (rf r) = m ((T d : Thread nD τ).loc r) := by
  unfold W4
  rw [Pipeline.afterRegion_keeps (pdats (fun _ => W3 m d g) 0 d) (W3 m d g) winFacts1.arr_inj (fun _ => rfl) r h]
  unfold W3
  rw [host1_writes _ r h1, W2_ne m d g (rf r) (fun e => h13 (Proc.devRef_injective _ e))]
  unfold W1
  rw [host0_writes _ r h0]

/-- The launch memory's argument arrays, read at the end. -/
def Kept (m' : (ℓ : Loc nD τ sig) → Buf (Elt F) ℓ) : Prop := ∀ c : Dev nD,
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)

theorem kept_of (s : (ℓ : Loc nD τ sig) → Buf (Elt F) ℓ) (h : ∀ d : Dev nD, ∃ g : Vec F S32x256x128 .f32, Good m d g ∧ ∀ b ∈ Pipeline.ucRefs τ sig, s (d, b) = W4 m d g b) :
    Kept m s := by
  intro c
  obtain ⟨g, -, hs⟩ := h c
  have key : ∀ r : Ref sig .tc, r.isScoped = false → (∀ w, Pipeline.arrRef cfg1.spec w = r → (cfg1.win w).isOut = false) →
      r ∉ host1W → r ≠ main_v13 → r ∉ host0W →
      s ((c.tc : Thread nD τ).loc r) = m ((c.tc : Thread nD τ).loc r) := fun r hr hw h1 h13 h0 =>
    (hs (rf r) (Pipeline.devRef_mem_ucRefs hr)).trans (W4_keeps m c g r hw h1 h13 h0)
  refine ⟨?_, ?_, ?_, ?_, ?_, ?_, ?_, ?_, ?_, ?_⟩
  all_goals exact key _ rfl (by decide) (by decide) (by decide) (by decide)

theorem run_kept [∀ e, Nonempty (Elt F e)] (ρ : Dev nD → PrngReg) :
    θ_run (Cert.KernelIdeal.defs (F := F)) (Cert.KernelIdeal.threads (F := F)) ⟨m, fun _ => 0, ρ⟩
      (fun r => Kept m r.2.mem ∧ r.2.sem = fun _ => 0) :=
  (θ_run Cert.KernelIdeal.defs _ _).mono (fun _ h => ⟨kept_of m _ h.1, h.2⟩) (run_all m ρ)

/-- The two programs' body tables are one: the same text, each label's body the same term. -/
theorem defs₀_same : Cert.Kernel.defs₀ (F := F) = Cert.KernelIdeal.defs₀ (F := F) := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl

theorem defs_same : Cert.Kernel.defs (F := F) = Cert.KernelIdeal.defs (F := F) := by
  unfold Cert.Kernel.defs
  rw [defs₀_same]
  rfl

theorem frame_kernel : Cert.quiescent_Kernel := fun m ρ _ => by
  rw [defs_same]
  exact (θ_run Cert.KernelIdeal.defs _ _).mono (fun _ h => ⟨fun c => h.1 c, h.2⟩) (run_kept (F := Bits) m ρ)

theorem frame_ideal : Cert.quiescent_KernelIdeal := fun m ρ _ =>
  (θ_run Cert.KernelIdeal.defs _ _).mono (fun _ h => h) (run_kept (F := Ideal) m ρ)

/-- The reference leaves its arguments alone; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof
-- ==== Proof.Math.lean ====
/-
  What the search finds and what the word of types says, over the extended reals: the last position at most a time in a
  sorted row, and a bit for each type met in a window.
-/
module

public import proofs.«01_k».proof.Proof.Words
public import Idealize.ShloMosaic.PureOps.Ideal
public import Idealize.ShloMosaic.PureOps.Ideal.Laws

@[expose] public section

noncomputable section

namespace Cert.Proof

open Cert.KernelIdeal Cert.KernelIdeal.Gen
open Idealize.ShloMosaic

/-! ## The search -/

/-- A row of times by position. -/
abbrev rowOf (tv : Vec Ideal S2048 .f32) (t : ℕ) : EReal := tv (ix1 t)

/-- The row's times do not fall. -/
def Sorted (T : ℕ → EReal) : Prop := ∀ a b, a ≤ b → b < 2048 → T a ≤ T b

/-- `p` is the last position whose time is at most `st`. -/
def IsPos (T : ℕ → EReal) (st : EReal) (p : ℕ) : Prop := p < 2048 ∧ ∀ t < 2048, (T t ≤ st ↔ t ≤ p)

theorem IsPos.unique {T : ℕ → EReal} {st : EReal} {p q : ℕ} (hp : IsPos T st p) (hq : IsPos T st q) : p = q := by
  have h1 := (hq.2 p hp.1).1 ((hp.2 p hp.1).2 le_rfl)
  have h2 := (hp.2 q hq.1).1 ((hq.2 q hq.1).2 le_rfl)
  omega

/-- The state of a search of width `w`. -/
def Inv (T : ℕ → EReal) (st : EReal) (w p : ℕ) : Prop :=
  p + w ≤ 2048 ∧ T p ≤ st ∧ ∀ t, p + w ≤ t → t < 2048 → ¬ T t ≤ st

theorem stp_inv (tv : Vec Ideal S2048 .f32) (st : FVec Ideal S16 .f32) (x : S16.Idx) (hs : Sorted (rowOf tv)) (s : BitVec 32)
    (pos : IVec S16 32) (h0 : 0 < s.toNat) (h : Inv (rowOf tv) (st x) (2 * s.toNat) (pos x).toNat) :
    Inv (rowOf tv) (st x) s.toNat (stp tv st s pos x).toNat := by
  obtain ⟨h1, h2, h3⟩ := h
  have hc : (cand s pos x).toNat = (pos x).toNat + s.toNat := by
    show (pos x + s).toNat = _
    rw [BitVec.toNat_add, Nat.mod_eq_of_lt (by omega)]
  have e : stp tv st s pos x = if BitVec.ofBool (decide (rowOf tv (cand s pos x).toNat ≤ st x)) = 1#1 then cand s pos x else pos x := rfl
  rw [e, hc]
  by_cases hle : rowOf tv ((pos x).toNat + s.toNat) ≤ st x
  · rw [if_pos (by rw [decide_eq_true hle]; rfl), hc]
    exact ⟨by omega, hle, fun t ht hl => h3 t (by omega) hl⟩
  · rw [if_neg (by rw [decide_eq_false hle]; decide)]
    exact ⟨by omega, h2, fun t ht hl hh => hle ((hs _ _ ht hl).trans hh)⟩

theorem srch_pos (tv : Vec Ideal S2048 .f32) (st : FVec Ideal S16 .f32) (x : S16.Idx) (hs : Sorted (rowOf tv)) (h0 : rowOf tv 0 ≤ st x) :
    IsPos (rowOf tv) (st x) (srch tv st x).toNat := by
  have z : Inv (rowOf tv) (st x) (2 * (1024#32).toNat) ((broadcast S16 0#32 : IVec S16 32) x).toNat :=
    ⟨by show 0 + 2048 ≤ 2048; omega, h0, fun t ht hl => absurd ht (by show ¬ (0 + 2048 ≤ t); omega)⟩
  have a1 := stp_inv tv st x hs 1024#32 _ (by decide) z
  have a2 := stp_inv tv st x hs 512#32 _ (by decide) a1
  have a3 := stp_inv tv st x hs 256#32 _ (by decide) a2
  have a4 := stp_inv tv st x hs 128#32 _ (by decide) a3
  have a5 := stp_inv tv st x hs 64#32 _ (by decide) a4
  have a6 := stp_inv tv st x hs 32#32 _ (by decide) a5
  have a7 := stp_inv tv st x hs 16#32 _ (by decide) a6
  have a8 := stp_inv tv st x hs 8#32 _ (by decide) a7
  have a9 := stp_inv tv st x hs 4#32 _ (by decide) a8
  have b1 := stp_inv tv st x hs 2#32 _ (by decide) a9
  have b2 := stp_inv tv st x hs 1#32 _ (by decide) b1
  obtain ⟨c1, c2, c3⟩ := b2
  have e1 : (1#32 : BitVec 32).toNat = 1 := rfl
  rw [e1] at c1 c3
  refine ⟨?_, fun t ht => ⟨fun hh => ?_, fun hh => ?_⟩⟩
  · show (srch tv st x).toNat < 2048
    unfold srch srchA
    omega
  · by_contra hn
    refine c3 t ?_ ht hh
    unfold srch srchA at hn
    omega
  · refine (hs t _ hh ?_).trans c2
    unfold srch srchA
    omega

/-! ## The word of types -/

theorem ori_bit (a b : BitVec 32) (k : ℕ) : (IntOp.ori a b).getLsbD k = (a.getLsbD k || b.getLsbD k) := BitVec.getLsbD_or

theorem accN_bit (ty : IVec S2048 32) (pos w : IVec S16 32) (x : S16.Idx) (k n : ℕ) :
    (accN ty pos w n x).getLsbD k = true ↔ ∃ j < n, (bitAt ty pos w (BitVec.ofNat 32 j) x).getLsbD k = true := by
  induction n with
  | zero =>
    constructor
    · intro h
      have : (0#32 : BitVec 32).getLsbD k = true := h
      rw [BitVec.getLsbD_zero] at this
      exact absurd this (by decide)
    · rintro ⟨j, hj, -⟩
      exact absurd hj (by omega)
  | succ n ih =>
    show (IntOp.ori (accN ty pos w n x) (bitAt ty pos w (BitVec.ofNat 32 n) x)).getLsbD k = true ↔ _
    rw [ori_bit, Bool.or_eq_true, ih]
    constructor
    · rintro (⟨j, hj, h⟩ | h)
      · exact ⟨j, by omega, h⟩
      · exact ⟨n, by omega, h⟩
    · rintro ⟨j, hj, h⟩
      by_cases hn : j = n
      · exact .inr (hn ▸ h)
      · exact .inl ⟨j, by omega, h⟩

theorem shl_one_bit (t : BitVec 32) (ht : t.toNat < 32) (k : ℕ) : (IntOp.shli .vector 1#32 t).getLsbD k = decide (k = t.toNat) := by
  unfold IntOp.shli
  rw [if_pos ht, BitVec.shiftLeft_eq', BitVec.getLsbD_shiftLeft, BitVec.getLsbD_one]
  by_cases h : k = t.toNat
  · subst h
    simp [ht]
  · by_cases h1 : k < t.toNat
    · simp [h1, h]
    · have : k - t.toNat ≠ 0 := by omega
      simp [h, this]

/-- Bit `k` of the word: a type `k` at a position of the window. -/
theorem accV_bit (ty : IVec S2048 32) (pos pos2 : IVec S16 32) (hp : Bd 1 pos) (hq : Bd 1 pos2) (x : S16.Idx)
    (hty : ∀ t, (ty (ix1 t)).toNat < 32) (k : ℕ) :
    (accV ty pos (subi pos2 pos) x).getLsbD k = true
      ↔ ∃ t, (pos x).toNat < t ∧ t ≤ (pos2 x).toNat ∧ (ty (ix1 t)).toNat = k := by
  have hw := wlen_toInt hq hp x
  have hm := (wmax_spec (subi pos2 pos)).2 x
  have hr := wmax_range hq hp
  have hg := grp_eq _ hr
  have hl := grp_le _ hr
  have hpx := hp x
  have hqx := hq x
  have key : ∀ j < 4096, (bitAt ty pos (subi pos2 pos) (BitVec.ofNat 32 j) x).getLsbD k = true
      ↔ ((j : Int) < ((pos2 x).toNat : Int) - (pos x).toNat ∧ (ty (ix1 (min ((pos x).toNat + 1 + j) 2047))).toNat = k) := by
    intro j hj
    have e : bitAt ty pos (subi pos2 pos) (BitVec.ofNat 32 j) x
        = if BitVec.ofBool ((BitVec.ofNat 32 j).slt (subi pos2 pos x)) = 1#1 then IntOp.shli .vector 1#32 (ty (ix1 (nxt pos (BitVec.ofNat 32 j) x).toNat)) else 0#32 := rfl
    have hs : (BitVec.ofNat 32 j).slt (subi pos2 pos x) = true ↔ (j : Int) < ((pos2 x).toNat : Int) - (pos x).toNat := by
      rw [BitVec.slt_iff_toInt_lt, hw]
      have h1 := BitVec.toInt_eq_toNat_cond (BitVec.ofNat 32 j)
      have h2 : (BitVec.ofNat 32 j).toNat = j := by rw [BitVec.toNat_ofNat]; omega
      rw [h2, if_pos (by omega)] at h1
      rw [h1]
    rw [e, nxt_toNat hp j hj]
    by_cases h : (BitVec.ofNat 32 j).slt (subi pos2 pos x) = true
    · rw [if_pos (by rw [h]; rfl), shl_one_bit _ (hty _), decide_eq_true_iff]
      exact ⟨fun hh => ⟨hs.1 h, hh.symm⟩, fun hh => hh.2.symm⟩
    · rw [if_neg (by rw [Bool.eq_false_iff.mpr h]; decide), BitVec.getLsbD_zero]
      exact ⟨fun hh => absurd hh (by decide), fun hh => absurd (hs.2 hh.1) h⟩
  unfold accV
  rw [accN_bit]
  constructor
  · rintro ⟨j, hj, h⟩
    obtain ⟨h1, h2⟩ := (key j (by omega)).1 h
    have : min ((pos x).toNat + 1 + j) 2047 = (pos x).toNat + 1 + j := by omega
    rw [this] at h2
    exact ⟨_, by omega, by omega, h2⟩
  · rintro ⟨t, h1, h2, h3⟩
    refine ⟨t - (pos x).toNat - 1, ?_, (key _ (by omega)).2 ⟨by omega, ?_⟩⟩
    · rw [hw] at hm
      rw [hg]
      omega
    · have : min ((pos x).toNat + 1 + (t - (pos x).toNat - 1)) 2047 = t := by omega
      rw [this]
      exact h3

/-! ## Words through floats -/

theorem fptosi_sitofp (b : BitVec 32) : Ideal.fptosi 32 (((b.toInt : ℝ)) : EReal) = b := by
  have h1 := BitVec.le_toInt b
  have h2 := BitVec.toInt_lt (x := b)
  have e : Ideal.toIntClamped (-(2 ^ (32 - 1) : Nat)) ((2 ^ (32 - 1) : Nat) - 1) ((b.toInt : ℝ) : EReal) = b.toInt := by
    show max _ (min _ (if (0 : ℝ) ≤ (b.toInt : ℝ) then ⌊(b.toInt : ℝ)⌋ else ⌈(b.toInt : ℝ)⌉)) = _
    rw [Int.floor_intCast, Int.ceil_intCast, ite_self]
    have e1 : ((2 ^ (32 - 1) : Nat) : Int) = 2147483648 := rfl
    have e2 : (2 : Int) ^ (32 - 1) = 2147483648 := rfl
    omega
  unfold Ideal.fptosi
  rw [e, BitVec.ofInt_toInt]

theorem halves (a : BitVec 32) :
    IntOp.ori (IntOp.andi a 65535#32) (IntOp.shli .vector (IntOp.shrui .vector a 16#32) 16#32) = a := by
  unfold IntOp.shli IntOp.shrui
  rw [if_pos (by decide), if_pos (by decide)]
  have h : ∀ i < 32, (65535#32 : BitVec 32).getLsbD i = decide (i < 16) := by decide
  apply BitVec.eq_of_getLsbD_eq
  intro i hi
  unfold IntOp.ori IntOp.andi
  rw [BitVec.getLsbD_or, BitVec.getLsbD_and, h i hi, BitVec.shiftLeft_eq', BitVec.getLsbD_shiftLeft, BitVec.ushiftRight_eq', BitVec.getLsbD_ushiftRight]
  have e : (16#32 : BitVec 32).toNat = 16 := rfl
  rw [e]
  by_cases h16 : i < 16
  · simp [h16]
  · have : 16 + (i - 16) = i := by omega
    simp [h16, hi, this]

theorem bit_out (a k : BitVec 32) (hk : k.toNat < 32) :
    IntOp.andi (IntOp.shrsi .vector a k) 1#32 = if a.getLsbD k.toNat = true then 1#32 else 0#32 := by
  unfold IntOp.shrsi
  rw [if_pos hk]
  unfold IntOp.andi
  apply BitVec.eq_of_getLsbD_eq
  intro i hi
  rw [BitVec.getLsbD_and, BitVec.sshiftRight_eq', BitVec.getLsbD_sshiftRight, BitVec.getLsbD_one]
  by_cases h0 : i = 0
  · subst h0
    rw [Nat.add_zero]
    by_cases hb : a.getLsbD k.toNat = true
    · rw [if_pos hb, if_pos hk, hb]; decide
    · rw [if_neg hb, if_pos hk, Bool.eq_false_iff.mpr hb]; decide
  · rw [decide_eq_false h0, Bool.and_false, Bool.and_false]
    by_cases hb : a.getLsbD k.toNat = true
    · rw [if_pos hb, BitVec.getLsbD_one, decide_eq_false h0, Bool.and_false]
    · rw [if_neg hb, BitVec.getLsbD_zero]

end Cert.Proof

end

end
-- ==== Proof.PreRead.lean ====
/-
  What the precondition says of the arguments, element by element, and the constants the two programs share as extended
  reals.
-/
module

public import proofs.«01_k».proof.Proof.Math
public import proofs.«01_k».proof.Proof.Gen.Pre_events_in_order
public import Idealize.ShloMosaic.Lib.ReduceAll
public import Idealize.ShloMosaic.Lib.Affine
public import Idealize.ShloMosaic.Lib.IdealHost
public import Idealize.ShloMosaic.Lib.Pointwise.Index

@[expose] public section

noncomputable section

namespace Cert.Proof

open Cert.KernelIdeal Cert.KernelIdeal.Gen
open Idealize.ShloMosaic

theorem lt2048 (t : ℕ) : t % 2048 < 2048 := Nat.mod_lt _ (by decide)
/-- Position `t` of row `b` of an array of 32 rows of 2048. -/
def posT (b : Fin 32) (t : ℕ) : S32x2048.Idx := ix2 b (⟨t % 2048, lt2048 t⟩ : Fin 2048)

/-- A row of times by position. -/
def rowT2 (x0 : FVec Ideal S32x2048 .f32) (b : Fin 32) (t : ℕ) : EReal := x0 (posT b t)

/-- The arguments are as the precondition has them. -/
structure Hyp (x0 : FVec Ideal S32x2048 .f32) (x1 : IVec S32x2048 32) (x2 : IVec S32x2048 1) (x3 : FVec Ideal S32x256 .f32) : Prop where
  fin : ∀ i, (x0 i : EReal) ≠ ⊤ ∧ (x0 i : EReal) ≠ ⊥
  sorted : ∀ b, Sorted (rowT2 x0 b)
  ty : ∀ i, (x1 i).toNat < 32
  mask : ∀ i, x2 i = 1#1
  u : ∀ i, (0 : EReal) ≤ x3 i

theorem inf_val : Ideal.ofBits .f32 0x7F800000#32 = (⊤ : EReal) := by simp [Ideal.ofBits, Ideal.ieee]
theorem ninf_val : Ideal.ofBits .f32 0xFF800000#32 = (⊥ : EReal) := by simp [Ideal.ofBits, Ideal.ieee]
theorem one_val : Ideal.ofBits .f32 0x3F800000#32 = (1 : EReal) := Ideal.ofBits_one_f32
theorem zero_val : Ideal.ofBits .f32 0x00000000#32 = (0 : EReal) := Ideal.ofBits_zero_f32

/-- The width of the window, a real that is not negative. -/
theorem ten_val : ∃ r : ℝ, 0 ≤ r ∧ Ideal.ofBits .f32 0x41200000#32 = (r : EReal) := by
  refine ⟨10485760 * ((2 : ℝ) ^ 20)⁻¹, by positivity, ?_⟩
  simp [Ideal.ofBits, Ideal.ieee]

theorem ofBool_one {p : Prop} [Decidable p] (h : BitVec.ofBool (decide p) = 1#1) : p := by
  by_contra hn
  rw [decide_eq_false hn] at h
  exact absurd h (by decide)

theorem hyp_of_pre (x0 : FVec Ideal S32x2048 .f32) (x1 : IVec S32x2048 32) (x2 : IVec S32x2048 1) (x3 : FVec Ideal S32x256 .f32)
    (x4 : FVec Ideal S32x256 .f32) (x5 : FVec Ideal S256 .f32) (x6 : FVec Ideal S257x256 .f32) (x7 : FVec Ideal S256 .f32)
    (x8 : FVec Ideal S256x32 .f32) (x9 : FVec Ideal S32 .f32)
    (h : Cert.Pre_events_in_order.fn (F := Ideal) x0 x1 x2 x3 x4 x5 x6 x7 x8 x9 = fun _ => 1#1) : Hyp x0 x1 x2 x3 := by
  haveI : Subsingleton Cert.Pre_events_in_order.S_.Idx := ⟨fun a b => funext fun i => i.elim0⟩
  have h0 := congrFun h (fun a => a.elim0)
  dsimp only [Cert.Pre_events_in_order.fn, Cert.Pre_events_in_order.fn_part1] at h0
  obtain ⟨h1, hu⟩ := IntOp.andi_eq_one.1 h0
  obtain ⟨h2, hm⟩ := IntOp.andi_eq_one.1 h1
  obtain ⟨h3, ht⟩ := IntOp.andi_eq_one.1 h2
  obtain ⟨hf, hs⟩ := IntOp.andi_eq_one.1 h3
  have hf' : ∀ i, max (x0 i : EReal) (-(x0 i : EReal)) < ⊤ := by
    intro i
    have e := Host.reduce_andi_all _ _ _ _ _ hf i
    have e' : BitVec.ofBool (decide (max (x0 i : EReal) (-(x0 i : EReal)) < Ideal.ofBits .f32 0x7F800000#32)) = 1#1 := e
    rw [inf_val] at e'
    exact ofBool_one e'
  have hs' : ∀ (b : Fin 32) (t : ℕ), t + 1 < 2048 → rowT2 x0 b t ≤ rowT2 x0 b (t + 1) := by
    intro b t ht
    have e := Host.reduce_andi_all _ _ _ _ _ hs (ix2 b (⟨t, by omega⟩ : Fin 2047))
    have e2 := ofBool_one e
    have a1 : extractStridedSlice Cert.Pre_events_in_order.S32x2047 ![0, 0] x0 Cert.Pre_events_in_order.Facts.slices_S32x2048_S32x2047_0_0 (ix2 b (⟨t, by omega⟩ : Fin 2047)) = x0 (posT b t) := by
      refine congrArg x0 (funext fun a => Fin.ext ?_)
      match a with
      | ⟨0, _⟩ => exact Nat.zero_add _
      | ⟨1, _⟩ => show 0 + t = t % 2048; omega
    have a2 : extractStridedSlice Cert.Pre_events_in_order.S32x2047 ![0, 1] x0 Cert.Pre_events_in_order.Facts.slices_S32x2048_S32x2047_0_1 (ix2 b (⟨t, by omega⟩ : Fin 2047)) = x0 (posT b (t + 1)) := by
      refine congrArg x0 (funext fun a => Fin.ext ?_)
      match a with
      | ⟨0, _⟩ => exact Nat.zero_add _
      | ⟨1, _⟩ => show 1 + t = (t + 1) % 2048; omega
    rw [a1, a2] at e2
    exact e2
  refine ⟨fun i => ⟨fun e => ?_, fun e => ?_⟩, fun b p q hpq hq => ?_, fun i => ?_, fun i => Host.reduce_andi_all _ _ _ _ _ hm i, fun i => ?_⟩
  · have := hf' i
    rw [e] at this
    exact absurd this (by simp)
  · have := hf' i
    rw [e] at this
    exact absurd this (by simp)
  · induction q, hpq using Nat.le_induction with
    | base => exact le_rfl
    | succ n hn ih => exact (ih (by omega)).trans (hs' b n (by omega))
  · have e := Host.reduce_andi_all _ _ _ _ _ ht i
    obtain ⟨e1, e2⟩ := IntOp.andi_eq_one.1 e
    have g1 : (0#32 : BitVec 32).sle (x1 i) = true := by
      by_contra hn
      have : BitVec.ofBool ((0#32 : BitVec 32).sle (x1 i)) = 1#1 := e1
      rw [Bool.eq_false_iff.mpr hn] at this
      exact absurd this (by decide)
    have g2 : (x1 i).slt 32#32 = true := by
      by_contra hn
      have : BitVec.ofBool ((x1 i).slt 32#32) = 1#1 := e2
      rw [Bool.eq_false_iff.mpr hn] at this
      exact absurd this (by decide)
    rw [BitVec.sle_iff_toInt_le] at g1
    rw [BitVec.slt_iff_toInt_lt] at g2
    have c1 : (0#32 : BitVec 32).toInt = 0 := by decide
    have c2 : (32#32 : BitVec 32).toInt = 32 := by decide
    have c3 := BitVec.toInt_eq_toNat_cond (x1 i)
    have := (x1 i).isLt
    split at c3 <;> omega
  · have e := Host.reduce_andi_all _ _ _ _ _ hu i
    have e' : BitVec.ofBool (decide (Ideal.ofBits .f32 0x00000000#32 ≤ (x3 i : EReal))) = 1#1 := e
    rw [zero_val] at e'
    exact ofBool_one e'

end Cert.Proof

end

end
-- ==== Proof.Gathers.lean ====
/-
  Words below a bound read signed, and the three gathers of the reference at an index.
-/
module

public import proofs.«01_k».proof.Proof.PreRead
public import proofs.«01_k».proof.Proof.Gen.ReferenceIdeal.Read
public import Idealize.ShloMosaic.Lib.Pointwise
public import Idealize.ShloMosaic.Lib.IndicatorCount

@[expose] public section

set_option maxRecDepth 16384

noncomputable section

namespace Cert.Proof

open Cert.ReferenceIdeal Cert.ReferenceIdeal.Gen Cert.ReferenceIdeal.Read
open Idealize.ShloMosaic

theorem sel_one {α : Type} (a b : α) : Scalar.select 1#1 a b = a := if_pos rfl
theorem sel_zero {α : Type} (a b : α) : Scalar.select 0#1 a b = b := if_neg (by decide)

/-! ### Words below a bound, read signed -/

theorem small_toInt (w : BitVec 32) (h : w.toNat < 2 ^ 31) : w.toInt = w.toNat := by
  have c := BitVec.toInt_eq_toNat_cond w
  rw [c, if_pos (by omega)]

theorem small_slt (w : BitVec 32) (h : w.toNat < 2 ^ 31) : IntOp.cmpi .slt w 0#32 = 0#1 := by
  have e : w.slt 0#32 = false := by
    rw [Bool.eq_false_iff, Ne, BitVec.slt_iff_toInt_lt, small_toInt w h]
    have : (0#32 : BitVec 32).toInt = 0 := by decide
    omega
  show BitVec.ofBool (w.slt 0#32) = 0#1
  rw [e]
  rfl

theorem small_sge (w : BitVec 32) (h : w.toNat < 2 ^ 31) : IntOp.cmpi .sge w 0#32 = 1#1 := by
  have e : (0#32 : BitVec 32).sle w = true := by
    rw [BitVec.sle_iff_toInt_le, small_toInt w h]
    have : (0#32 : BitVec 32).toInt = 0 := by decide
    omega
  show BitVec.ofBool ((0#32 : BitVec 32).sle w) = 1#1
  rw [e]
  rfl

theorem small_sle (w c : BitVec 32) (h : w.toNat ≤ c.toNat) (hc : c.toNat < 2 ^ 31) : IntOp.cmpi .sle w c = 1#1 := by
  have e : w.sle c = true := by
    rw [BitVec.sle_iff_toInt_le, small_toInt w (by omega), small_toInt c hc]
    omega
  show BitVec.ofBool (w.sle c) = 1#1
  rw [e]
  rfl

/-! ### The three gathers -/

theorem gather_time {α : Type} (x : S32x2048.Idx → α) (idx : IVec S32x256x1 32) (b : Fin 32) (s : Fin 256)
    (h : (idx (ix3 b s (0 : Fin 1))).toNat < 2048) :
    Host.gather gather_S32x2048_S32x256x1_S32x256_n_1_0_0_1_2_11 x idx (ix2 b s) = x (ix2 b (⟨(idx (ix3 b s (0 : Fin 1))).toNat, h⟩ : Fin 2048)) := by
  unfold Host.gather
  refine congrArg x (funext fun a => Fin.ext ?_)
  show gather_S32x2048_S32x256x1_S32x256_n_1_0_0_1_2_11.start (ix2 b s) idx a + gather_S32x2048_S32x256x1_S32x256_n_1_0_0_1_2_11.batchCoord (ix2 b s) a
    + gather_S32x2048_S32x256x1_S32x256_n_1_0_0_1_2_11.offCoord (ix2 b s) a = _
  have hc : a = 0 ∨ a = 1 := by
    match a with
    | ⟨0, _⟩ => exact Or.inl rfl
    | ⟨1, _⟩ => exact Or.inr rfl
  rcases hc with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32x2048_S32x256x1_S32x256_n_1_0_0_1_2_11.operandBatchingDims from List.mem_singleton.mpr rfl)]
    rfl
  · rw [GatherDims.batchCoord_eq_zero _ _ _ (fun h => by simp [gather_S32x2048_S32x256x1_S32x256_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x2048_S32x256x1_S32x256_n_1_0_0_1_2_11.startIndexMap from List.mem_singleton.mpr rfl)]
    have hsi : gather_S32x2048_S32x256x1_S32x256_n_1_0_0_1_2_11.siIdx (ix2 b s) ⟨List.idxOf (1 : Fin 2) gather_S32x2048_S32x256x1_S32x256_n_1_0_0_1_2_11.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, small_toInt _ (by omega)]
    show min (Int.toNat _) 2047 = _
    rw [Int.toNat_natCast]
    exact Nat.min_eq_left (by omega)

theorem gather_row {α : Type} (x : S32x2048x256.Idx → α) (idx : IVec S32x256x1 32) (b : Fin 32) (s : Fin 256) (e : Fin 256)
    (h : (idx (ix3 b s (0 : Fin 1))).toNat < 2048) :
    Host.gather gather_S32x2048x256_S32x256x1_S32x256x256_2_1_0_0_1_2_11256 x idx (ix3 b s e) = x (ix3 b (⟨(idx (ix3 b s (0 : Fin 1))).toNat, h⟩ : Fin 2048) e) := by
  unfold Host.gather
  refine congrArg x (funext fun a => Fin.ext ?_)
  show gather_S32x2048x256_S32x256x1_S32x256x256_2_1_0_0_1_2_11256.start (ix3 b s e) idx a + gather_S32x2048x256_S32x256x1_S32x256x256_2_1_0_0_1_2_11256.batchCoord (ix3 b s e) a
    + gather_S32x2048x256_S32x256x1_S32x256x256_2_1_0_0_1_2_11256.offCoord (ix3 b s e) a = _
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S32x2048x256_S32x256x1_S32x256x256_2_1_0_0_1_2_11256.operandBatchingDims from List.mem_singleton.mpr rfl)]
    rfl
  · rw [GatherDims.batchCoord_eq_zero _ _ _ (fun h => by simp [gather_S32x2048x256_S32x256x1_S32x256x256_2_1_0_0_1_2_11256] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S32x2048x256_S32x256x1_S32x256x256_2_1_0_0_1_2_11256.startIndexMap from List.mem_singleton.mpr rfl)]
    have hsi : gather_S32x2048x256_S32x256x1_S32x256x256_2_1_0_0_1_2_11256.siIdx (ix3 b s e) ⟨List.idxOf (1 : Fin 3) gather_S32x2048x256_S32x256x1_S32x256x256_2_1_0_0_1_2_11256.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, small_toInt _ (by omega)]
    show min (Int.toNat _) 2047 = _
    rw [Int.toNat_natCast]
    exact Nat.min_eq_left (by omega)
  · rw [GatherDims.batchCoord_eq_zero _ _ _ (fun h => by simp [gather_S32x2048x256_S32x256x1_S32x256x256_2_1_0_0_1_2_11256] at h)]
    have h0 : gather_S32x2048x256_S32x256x1_S32x256x256_2_1_0_0_1_2_11256.start (ix3 b s e) idx 2 = 0 := by
      unfold GatherDims.start
      rw [dif_neg (by simp [gather_S32x2048x256_S32x256x1_S32x256x256_2_1_0_0_1_2_11256])]
    rw [h0, Nat.zero_add]
    rfl

theorem gather_emb {α : Type} (x : S32x256.Idx → α) (idx : IVec S32x2048x1 32) (b : Fin 32) (t : Fin 2048) (e : Fin 256)
    (h : (idx (ix3 b t (0 : Fin 1))).toNat < 32) :
    Host.gather gather_S32x256_S32x2048x1_S32x2048x256_2_0_n_n_0_2_1256 x idx (ix3 b t e) = x (ix2 (⟨(idx (ix3 b t (0 : Fin 1))).toNat, h⟩ : Fin 32) e) := by
  unfold Host.gather
  refine congrArg x (funext fun a => Fin.ext ?_)
  show gather_S32x256_S32x2048x1_S32x2048x256_2_0_n_n_0_2_1256.start (ix3 b t e) idx a + gather_S32x256_S32x2048x1_S32x2048x256_2_0_n_n_0_2_1256.batchCoord (ix3 b t e) a
    + gather_S32x256_S32x2048x1_S32x2048x256_2_0_n_n_0_2_1256.offCoord (ix3 b t e) a = _
  have hc : a = 0 ∨ a = 1 := by
    match a with
    | ⟨0, _⟩ => exact Or.inl rfl
    | ⟨1, _⟩ => exact Or.inr rfl
  rcases hc with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x256_S32x2048x1_S32x2048x256_2_0_n_n_0_2_1256.startIndexMap from List.mem_singleton.mpr rfl)]
    have hsi : gather_S32x256_S32x2048x1_S32x2048x256_2_0_n_n_0_2_1256.siIdx (ix3 b t e) ⟨List.idxOf (0 : Fin 2) gather_S32x256_S32x2048x1_S32x2048x256_2_0_n_n_0_2_1256.startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, small_toInt _ (by omega)]
    show min (Int.toNat _) 31 = _
    rw [Int.toNat_natCast]
    exact Nat.min_eq_left (by omega)
  · rw [GatherDims.batchCoord_eq_zero _ _ _ List.not_mem_nil]
    have h0 : gather_S32x256_S32x2048x1_S32x2048x256_2_0_n_n_0_2_1256.start (ix3 b t e) idx 1 = 0 := by
      unfold GatherDims.start
      rw [dif_neg (by simp [gather_S32x256_S32x2048x1_S32x2048x256_2_0_n_n_0_2_1256])]
    rw [h0, Nat.zero_add]
    rfl

end Cert.Proof

end

end
-- ==== Proof.RefVal.lean ====
/-
  The reference's two results at an index, under the precondition: the times, the count of the events not later than a
  sample, the rows taken there, the layers, the labels.
-/
module

public import proofs.«01_k».proof.Proof.Gathers

@[expose] public section

set_option maxRecDepth 16384

noncomputable section

namespace Cert.Proof

open Cert.ReferenceIdeal Cert.ReferenceIdeal.Gen Cert.ReferenceIdeal.Read
open Idealize.ShloMosaic

/-- The window's width. -/
def ten : EReal := Ideal.ofBits .f32 0x41200000#32

/-- The length from a row's first time to its last sampled one. -/
def scaleT (x0 : FVec Ideal S32x2048 .f32) (b : Fin 32) : EReal :=
  max (rowT2 x0 b 2047 - ten) (rowT2 x0 b 0) - rowT2 x0 b 0

/-- The sample time `s` of row `b`. -/
def stT (x0 : FVec Ideal S32x2048 .f32) (x3 : FVec Ideal S32x256 .f32) (b : Fin 32) (s : Fin 256) : EReal :=
  (x3 (ix2 b s) : EReal) * scaleT x0 b + rowT2 x0 b 0

theorem posT_val (b : Fin 32) (t : Fin 2048) : posT b t.val = ix2 b t := congrArg (ix2 b) (Fin.ext (Nat.mod_eq_of_lt t.isLt))

theorem mk_congr {n a b : ℕ} (h : a = b) (ha : a < n) (hb : b < n) : (⟨a, ha⟩ : Fin n) = ⟨b, hb⟩ := by
  subst h
  rfl

/-- A type in range is what its clipping gives. -/
theorem clip_id (w : BitVec 32) (h : w.toNat < 32) : IntOp.minsi 31#32 (IntOp.maxsi 0#32 w) = w := by
  have c0 : (0#32 : BitVec 32).toInt = 0 := by decide
  have c1 : (31#32 : BitVec 32).toInt = 31 := by decide
  have cw := small_toInt w (by omega)
  have e : IntOp.maxsi 0#32 w = w := by
    unfold IntOp.maxsi
    split
    · rename_i h1
      simp only [BitVec.sle_iff_toInt_le, BitVec.slt_iff_toInt_lt] at h1
      first
        | rfl
        | (apply BitVec.eq_of_toInt_eq; omega)
    · rename_i h1
      simp only [BitVec.sle_iff_toInt_le, BitVec.slt_iff_toInt_lt] at h1
      first
        | rfl
        | (apply BitVec.eq_of_toInt_eq; omega)
  rw [e]
  unfold IntOp.minsi
  split
  · rename_i h1
    simp only [BitVec.sle_iff_toInt_le, BitVec.slt_iff_toInt_lt] at h1
    first
      | rfl
      | (apply BitVec.eq_of_toInt_eq; omega)
  · rename_i h1
    simp only [BitVec.sle_iff_toInt_le, BitVec.slt_iff_toInt_lt] at h1
    first
      | rfl
      | (apply BitVec.eq_of_toInt_eq; omega)

/-- A position in range passes the range test, taken along an axis of one. -/
theorem mask_one (w : Fin 1 → BitVec 32) (c : BitVec 32) (h : (w 0).toNat ≤ c.toNat) (hc : c.toNat < 2 ^ 31) :
    Finset.fold IntOp.andi 1#1 (fun x => IntOp.andi (IntOp.cmpi .sge (w x) 0#32) (IntOp.cmpi .sle (w x) c)) Finset.univ = 1#1 := by
  rw [Finset.univ_unique, Finset.fold_singleton]
  show IntOp.andi (IntOp.andi (IntOp.cmpi .sge (w 0) 0#32) (IntOp.cmpi .sle (w 0) c)) 1#1 = 1#1
  rw [small_sge _ (by omega), small_sle _ _ h hc]
  rfl

variable {x0 : FVec Ideal S32x2048 .f32} {x1 : IVec S32x2048 32} {x2 : IVec S32x2048 1} {x3 : FVec Ideal S32x256 .f32}

section times
variable (H : Hyp x0 x1 x2 x3)
include H

theorem val7 : val_main_v7 (F := Ideal) x0 x2 = x0 := by
  funext i
  rw [val_main_v7_apply, H.mask, sel_one]

theorem val32 : val_main_v32 (F := Ideal) x0 x2 = x0 := by
  funext i
  rw [val_main_v32_apply, H.mask, sel_one]

theorem val51 : val_main_v51 (F := Ideal) x0 x2 = x0 := by
  funext i
  rw [val_main_v51_apply, H.mask, sel_one]

theorem val9 (b : Fin 32) : val_main_v9 (F := Ideal) x0 x2 (Idealize.ShloMosaic.ix1 b) = rowT2 x0 b 0 := by
  unfold val_main_v9 val_main_v8
  rw [val7 H]
  pointwise
  rfl

theorem val10 (b : Fin 32) : val_main_v10 (F := Ideal) x0 x2 (Idealize.ShloMosaic.ix1 b) = rowT2 x0 b 2047 := by
  unfold val_main_v10
  rw [val7 H]
  pointwise [val_main_cst_0]
  rw [ninf_val]
  apply le_antisymm
  · refine Finset.fold_max_le _ |>.2 ⟨bot_le, fun t _ => ?_⟩
    have h := H.sorted b t.val 2047 (by have := t.isLt; omega) (by decide)
    unfold rowT2 at h
    rw [posT_val] at h
    exact h
  · exact Finset.le_fold_max _ |>.2 (Or.inr ⟨⟨2047, by decide⟩, Finset.mem_univ _, le_rfl⟩)

theorem row_real (b : Fin 32) (t : ℕ) : ∃ r : ℝ, rowT2 x0 b t = (r : EReal) :=
  ⟨(rowT2 x0 b t).toReal, (EReal.coe_toReal (H.fin _).1 (H.fin _).2).symm⟩

theorem val17 (b : Fin 32) : val_main_v17 (F := Ideal) x0 x2 (Idealize.ShloMosaic.ix1 b) = rowT2 x0 b 0 := by
  unfold val_main_v17 val_main_v16 val_main_v14 val_main_v13 val_main_v11
  pointwise [val_main_v12, val_main_v15]
  rw [val9 H, val10 H]
  obtain ⟨a, ha⟩ := row_real H b 0
  obtain ⟨c, hc⟩ := row_real H b 2047
  obtain ⟨w, hw, hw'⟩ := ten_val
  have e1 : val_main_cst_1 (F := Ideal) ix0 = (0 : EReal) := zero_val
  have e2 : val_main_cst_2 (F := Ideal) ix0 = (w : EReal) := hw'
  rw [e1, e2, ha, hc, mul_zero, add_zero]
  refine max_eq_right ?_
  rw [← EReal.coe_sub]
  exact EReal.coe_le_coe_iff.2 (by linarith)

theorem val24 (b : Fin 32) : val_main_v24 (F := Ideal) x0 x2 (Idealize.ShloMosaic.ix1 b) = max (rowT2 x0 b 2047 - ten) (rowT2 x0 b 0) := by
  unfold val_main_v24 val_main_v23 val_main_v21 val_main_v20 val_main_v18
  pointwise [val_main_v22, val_main_v19]
  rw [val9 H, val10 H]
  obtain ⟨a, ha⟩ := row_real H b 0
  obtain ⟨c, hc⟩ := row_real H b 2047
  have e1 : val_main_cst_3 (F := Ideal) ix0 = (1 : EReal) := one_val
  have e2 : val_main_cst_4 (F := Ideal) ix0 = ten := rfl
  rw [e1, e2, ha, hc, mul_one, ← EReal.coe_sub, ← EReal.coe_add]
  congr 2
  exact congrArg _ (by ring)

theorem val31 (b : Fin 32) (s : Fin 256) : val_main_v31 (F := Ideal) x0 x2 x3 (ix2 b s) = stT x0 x3 b s := by
  unfold val_main_v31 val_main_v28 val_main_v30 val_main_v29 val_main_v27 val_main_v26 val_main_v25
  pointwise
  rw [val24 H, val17 H]
  rfl

theorem scale_nonneg (b : Fin 32) : 0 ≤ scaleT x0 b := by
  obtain ⟨a, ha⟩ := row_real H b 0
  unfold scaleT
  refine (EReal.sub_nonneg (Or.inr ?_) (Or.inr ?_)).2 (le_max_right _ _)
  · exact (H.fin _).1
  · exact (H.fin _).2

theorem st_ge (b : Fin 32) (s : Fin 256) : rowT2 x0 b 0 ≤ stT x0 x3 b s := by
  unfold stT
  exact le_add_of_nonneg_left (mul_nonneg (H.u _) (scale_nonneg H b))

theorem st_ne_bot (b : Fin 32) (s : Fin 256) : stT x0 x3 b s ≠ ⊥ := by
  intro e
  have h := st_ge H b s
  rw [e] at h
  exact (H.fin _).2 (le_bot_iff.1 h)

theorem past_iff (b : Fin 32) (s : Fin 256) (t : Fin 2048) :
    val_main_v39 (F := Ideal) x0 x2 x3 (ix3 b s t) = 1#1 ↔ rowT2 x0 b t.val ≤ stT x0 x3 b s := by
  unfold val_main_v39 val_main_v37 val_main_v35 val_main_v33 val_main_v36 val_main_v34
  pointwise [val_main_v38]
  rw [val31 H, val32 H]
  have e1 : val_main_cst_6 (F := Ideal) ix0 = (0 : EReal) := zero_val
  rw [e1]
  have e : rowT2 x0 b t.val = x0 (ix2 b t) := congrArg x0 (posT_val b t)
  rw [e]
  have e2 := (EReal.sub_nonneg (x := stT x0 x3 b s) (y := x0 (ix2 b t)) (Or.inr (H.fin _).1) (Or.inr (H.fin _).2))
  refine Iff.trans ⟨fun h => ofBool_one h, fun h => ?_⟩ e2
  rw [decide_eq_true h]
  rfl

/-- The events not later than a sample, counted: one more than the last of them. -/
theorem val41 (b : Fin 32) (s : Fin 256) (p : ℕ) (hp : IsPos (rowT2 x0 b) (stT x0 x3 b s) p) :
    val_main_v41 (F := Ideal) x0 x2 x3 (ix2 b s) = BitVec.ofNat 32 (p + 1) := by
  unfold val_main_v41 val_main_v40
  pointwise [val_main_c]
  refine (IndicatorCount.fold_addi_setWidth_eq_card (w := 32) (fun t : Fin 2048 => val_main_v39 (F := Ideal) x0 x2 x3 (ix3 b s t)) Finset.univ).trans ?_
  congr 1
  have e : (Finset.univ.filter fun t : Fin 2048 => val_main_v39 (F := Ideal) x0 x2 x3 (ix3 b s t) = 1#1)
      = Finset.Iic (⟨p, hp.1⟩ : Fin 2048) := by
    ext t
    rw [Finset.mem_filter, past_iff H, Finset.mem_Iic, hp.2 t.val t.isLt]
    exact ⟨fun h => h.2, fun h => ⟨Finset.mem_univ _, h⟩⟩
  rw [e, Fin.card_Iic]

theorem val43 (b : Fin 32) (s : Fin 256) (p : ℕ) (hp : IsPos (rowT2 x0 b) (stT x0 x3 b s) p) :
    (val_main_v43 (F := Ideal) x0 x2 x3 (ix2 b s)).toNat = p := by
  unfold val_main_v43
  pointwise [val_main_v42, val_main_c_7]
  rw [val41 H b s p hp]
  have := hp.1
  show (BitVec.ofNat 32 (p + 1) - 1#32).toNat = p
  rw [BitVec.toNat_sub, BitVec.toNat_ofNat, BitVec.toNat_ofNat]
  omega

theorem val44 (b : Fin 32) (s : Fin 256) (p : ℕ) (hp : IsPos (rowT2 x0 b) (stT x0 x3 b s) p) :
    val_main_v44 (F := Ideal) x0 x2 x3 (ix2 b s) = rowT2 x0 b p := by
  have h43 := val43 H b s p hp
  have hlt := hp.1
  have e4 : val_main_call3_v4 (F := Ideal) x0 x2 x3 (ix2 b s) = val_main_v43 (F := Ideal) x0 x2 x3 (ix2 b s) := by
    unfold val_main_call3_v4 val_main_call3_v1
    pointwise [val_main_call3_v0, val_main_call3_c]
    rw [small_slt _ (by omega), sel_zero]
  have e5 : val_main_call3_v5 (F := Ideal) x0 x2 x3 (ix3 b s (0 : Fin 1)) = val_main_v43 (F := Ideal) x0 x2 x3 (ix2 b s) := by
    rw [← e4]
    unfold val_main_call3_v5
    pointwise
  have e12 : val_main_call3_v12 (F := Ideal) x0 x2 x3 (ix2 b s) = 1#1 := by
    unfold val_main_call3_v12 val_main_call3_v11 val_main_call3_v10 val_main_call3_v7
    pointwise [val_main_call3_v9, val_main_call3_v8, val_main_call3_v6]
    exact mask_one (fun x => val_main_call3_v5 (F := Ideal) x0 x2 x3 (ix3 b s x)) 2047#32 (by simp only [e5, h43]; exact Nat.le_of_lt_succ hlt) (by decide)
  unfold val_main_v44
  show Scalar.select (val_main_call3_v12 (F := Ideal) x0 x2 x3 (ix2 b s)) (val_main_call3_v13 (F := Ideal) x0 x2 x3 (ix2 b s)) _ = _
  rw [e12, sel_one]
  unfold val_main_call3_v13
  rw [gather_time _ _ b s (by rw [e5]; omega), val32 H]
  have e : (val_main_call3_v5 (F := Ideal) x0 x2 x3 (ix3 b s (0 : Fin 1))).toNat = p := by rw [e5, h43]
  have e' : rowT2 x0 b p = x0 (ix2 b (⟨p, hlt⟩ : Fin 2048)) := congrArg x0 (posT_val b ⟨p, hlt⟩)
  rw [e']
  exact congrArg (fun q : Fin 2048 => x0 (ix2 b q)) (mk_congr e _ _)

theorem val48 (b : Fin 32) (s : Fin 256) (p : ℕ) (hp : IsPos (rowT2 x0 b) (stT x0 x3 b s) p) :
    val_main_v48 (F := Ideal) x0 x2 x3 (ix2 b s) = stT x0 x3 b s - rowT2 x0 b p := by
  have h44 := val44 H b s p hp
  have e45 : val_main_v45 (F := Ideal) x0 x2 x3 (ix2 b s) = stT x0 x3 b s - rowT2 x0 b p := by
    unfold val_main_v45
    pointwise
    rw [val31 H, h44]
  have hne : stT x0 x3 b s - rowT2 x0 b p ≠ ⊥ := by
    obtain ⟨r, hr⟩ := row_real H b p
    rw [hr]
    induction h : stT x0 x3 b s using EReal.rec with
    | bot => exact absurd h (st_ne_bot H b s)
    | coe a => rw [← EReal.coe_sub]; exact EReal.coe_ne_bot _
    | top => rw [EReal.top_sub_coe]; exact top_ne_bot
  unfold val_main_v48 val_main_v47
  pointwise [val_main_v46]
  rw [e45]
  exact if_neg (fun h => hne (h.trans ninf_val))

theorem val50 (b : Fin 32) (s e : Fin 256) (p : ℕ) (hp : IsPos (rowT2 x0 b) (stT x0 x3 b s) p)
    (x4 : FVec Ideal S32x256 .f32) (x5 : FVec Ideal S256 .f32) :
    val_main_v50 (F := Ideal) x0 x1 x2 x3 x4 x5 (ix3 b s e) = val_main_v6 (F := Ideal) x0 x1 x4 x5 (ix3 b (⟨p, hp.1⟩ : Fin 2048) e) := by
  have h43 := val43 H b s p hp
  have hlt := hp.1
  have e4 : val_main_call5_v4 (F := Ideal) x0 x2 x3 (ix3 b s (0 : Fin 1)) = val_main_v43 (F := Ideal) x0 x2 x3 (ix2 b s) := by
    unfold val_main_call5_v4 val_main_call5_v1 val_main_v49
    pointwise [val_main_call5_v0, val_main_call5_c]
    rw [small_slt _ (by omega), sel_zero]
  have e11 : val_main_call5_v11 (F := Ideal) x0 x2 x3 (ix2 b s) = 1#1 := by
    unfold val_main_call5_v11 val_main_call5_v10 val_main_call5_v9 val_main_call5_v6
    pointwise [val_main_call5_v5, val_main_call5_v8, val_main_call5_v7]
    exact mask_one (fun x => val_main_call5_v4 (F := Ideal) x0 x2 x3 (ix3 b s x)) 2047#32 (by simp only [e4, h43]; exact Nat.le_of_lt_succ hlt) (by decide)
  unfold val_main_v50 val_main_call5_v13
  pointwise
  rw [e11, sel_one]
  unfold val_main_call5_v12
  rw [gather_row _ _ b s e (by rw [e4]; omega)]
  have e' : (val_main_call5_v4 (F := Ideal) x0 x2 x3 (ix3 b s (0 : Fin 1))).toNat = p := by rw [e4, h43]
  exact congrArg (fun q : Fin 2048 => val_main_v6 (F := Ideal) x0 x1 x4 x5 (ix3 b q e)) (mk_congr e' _ _)

theorem val6 (b : Fin 32) (t : Fin 2048) (e : Fin 256) (x4 : FVec Ideal S32x256 .f32) (x5 : FVec Ideal S256 .f32) :
    val_main_v6 (F := Ideal) x0 x1 x4 x5 (ix3 b t e)
      = (x4 (ix2 (⟨(x1 (ix2 b t)).toNat, H.ty _⟩ : Fin 32) e) : EReal) + x0 (ix2 b t) * x5 (Idealize.ShloMosaic.ix1 e) := by
  have hlt := H.ty (ix2 b t)
  have e4 : val_main_call0_v4 (F := Ideal) x1 (ix2 b t) = x1 (ix2 b t) := by
    unfold val_main_call0_v4 val_main_call0_v1
    pointwise [val_main_call0_v0, val_main_call0_c]
    rw [small_slt _ (by omega), sel_zero]
  have e5 : val_main_call0_v5 (F := Ideal) x1 (ix3 b t (0 : Fin 1)) = x1 (ix2 b t) := by
    rw [← e4]
    unfold val_main_call0_v5
    pointwise
  have e12 : val_main_call0_v12 (F := Ideal) x1 (ix2 b t) = 1#1 := by
    unfold val_main_call0_v12 val_main_call0_v11 val_main_call0_v10 val_main_call0_v7
    pointwise [val_main_call0_v9, val_main_call0_v8, val_main_call0_v6]
    exact mask_one (fun x => val_main_call0_v5 (F := Ideal) x1 (ix3 b t x)) 31#32 (by simp only [e5]; exact Nat.le_of_lt_succ hlt) (by decide)
  unfold val_main_v6 val_main_v0 val_main_call0_v14 val_main_v5 val_main_v3 val_main_v1 val_main_v4 val_main_v2
  pointwise
  rw [e12, sel_one]
  unfold val_main_call0_v13
  rw [gather_emb _ _ b t e (by rw [e5]; omega)]
  simp only [e5]

/-- The row of the first layer's input taken at a position. -/
def embT (x0 : FVec Ideal S32x2048 .f32) (x1 : IVec S32x2048 32) (hty : ∀ i, (x1 i).toNat < 32) (x4 : FVec Ideal S32x256 .f32) (x5 : FVec Ideal S256 .f32)
    (b : Fin 32) (t : Fin 2048) (e : Fin 256) : EReal :=
  (x4 (ix2 (⟨(x1 (ix2 b t)).toNat, hty _⟩ : Fin 32) e) : EReal) + x0 (ix2 b t) * x5 (Idealize.ShloMosaic.ix1 e)

/-- The two layers on an input row and the time since the event. -/
def mlp (r : Fin 256 → EReal) (dt : EReal) (x6 : FVec Ideal S257x256 .f32) (x7 : FVec Ideal S256 .f32) (x8 : FVec Ideal S256x32 .f32) (x9 : FVec Ideal S32 .f32)
    (k : Fin 32) : EReal :=
  Ideal.logistic ((∑ d : Fin 256, max ((∑ e : Fin 256, r e * x6 (ix2 (Fin.castSucc e) d)) + dt * x6 (ix2 (Fin.last 256) d)
    + x7 (Idealize.ShloMosaic.ix1 d)) 0 * x8 (ix2 d k)) + x9 (Idealize.ShloMosaic.ix1 k))

theorem val84 (b : Fin 32) (s : Fin 256) (p : ℕ) (hp : IsPos (rowT2 x0 b) (stT x0 x3 b s) p)
    (x4 : FVec Ideal S32x256 .f32) (x5 : FVec Ideal S256 .f32) (e : Fin 257) :
    val_main_v84 (F := Ideal) x0 x1 x2 x3 x4 x5 (ix3 b s e) = Fin.lastCases (stT x0 x3 b s - rowT2 x0 b p) (embT x0 x1 H.ty x4 x5 b ⟨p, hp.1⟩) e := by
  unfold val_main_v84 val_main_v83
  pointwise
  refine Fin.lastCases ?_ (fun e => ?_) e
  · rw [Fin.lastCases_last, dif_neg (by simp), val48 H b s p hp]
  · rw [Fin.lastCases_castSucc, dif_pos (by simp)]
    exact (val50 H b s e p hp x4 x5).trans (val6 H b ⟨p, hp.1⟩ e x4 x5)

theorem val89 (b : Fin 32) (s : Fin 256) (p : ℕ) (hp : IsPos (rowT2 x0 b) (stT x0 x3 b s) p)
    (x4 : FVec Ideal S32x256 .f32) (x5 : FVec Ideal S256 .f32) (x6 : FVec Ideal S257x256 .f32) (x7 : FVec Ideal S256 .f32) (d : Fin 256) :
    val_main_v89 (F := Ideal) x0 x1 x2 x3 x4 x5 x6 x7 (ix3 b s d)
      = max ((∑ e : Fin 256, embT x0 x1 H.ty x4 x5 b ⟨p, hp.1⟩ e * x6 (ix2 (Fin.castSucc e) d)) + (stT x0 x3 b s - rowT2 x0 b p) * x6 (ix2 (Fin.last 256) d)
    + x7 (Idealize.ShloMosaic.ix1 d)) 0 := by
  unfold val_main_v89 val_main_v88 val_main_v85 val_main_v87 val_main_v86
  pointwise [val_main_call8_v0]
  have e0 : val_main_call8_cst (F := Ideal) ix0 = (0 : EReal) := zero_val
  rw [e0, Fin.sum_univ_castSucc]
  simp only [val84 H b s p hp, Fin.lastCases_last, Fin.lastCases_castSucc]

theorem val99 (b : Fin 32) (s : Fin 256) (p : ℕ) (hp : IsPos (rowT2 x0 b) (stT x0 x3 b s) p)
    (x4 : FVec Ideal S32x256 .f32) (x5 : FVec Ideal S256 .f32) (x6 : FVec Ideal S257x256 .f32) (x7 : FVec Ideal S256 .f32)
    (x8 : FVec Ideal S256x32 .f32) (x9 : FVec Ideal S32 .f32) (k : Fin 32) :
    val_main_v99 (F := Ideal) x0 x1 x2 x3 x4 x5 x6 x7 x8 x9 (ix3 b s k)
      = mlp (embT x0 x1 H.ty x4 x5 b ⟨p, hp.1⟩) (stT x0 x3 b s - rowT2 x0 b p) x6 x7 x8 x9 k := by
  unfold val_main_v99 val_main_v97 val_main_v95 val_main_v94 val_main_v93 val_main_v90 val_main_v92 val_main_v91
  pointwise [val_main_v98, val_main_v96]
  have e1 : val_main_cst_18 (F := Ideal) ix0 = (1 : EReal) := one_val
  have e2 : val_main_cst_17 (F := Ideal) ix0 = (1 : EReal) := one_val
  rw [e1, e2]
  simp only [val89 H b s p hp]
  rfl

/-- Some event of type `k` falls in the window after a sample. -/
def Hit (x0 : FVec Ideal S32x2048 .f32) (x1 : IVec S32x2048 32) (x3 : FVec Ideal S32x256 .f32) (b : Fin 32) (s : Fin 256) (k : Fin 32) : Prop :=
  ∃ t : Fin 2048, stT x0 x3 b s < x0 (ix2 b t) ∧ (x0 (ix2 b t) : EReal) ≤ stT x0 x3 b s + ten ∧ (x1 (ix2 b t)).toNat = k.val

theorem val78 (b : Fin 32) (s : Fin 256) (t : Fin 2048) (k : Fin 32) :
    val_main_v78 (F := Ideal) x0 x1 x2 x3 (ix4 b s t k) = 1#1
      ↔ stT x0 x3 b s < x0 (ix2 b t) ∧ (x0 (ix2 b t) : EReal) ≤ stT x0 x3 b s + ten ∧ (x1 (ix2 b t)).toNat = k.val := by
  unfold val_main_v78 val_main_v77 val_main_v76 val_main_v75 val_main_v74 val_main_v73 val_main_v72 val_main_v71 val_main_v70 val_main_v69 val_main_v68 val_main_v67
    val_main_v66 val_main_v65 val_main_v63 val_main_v62 val_main_v61 val_main_v60 val_main_v59 val_main_v58 val_main_v56 val_main_v55 val_main_v54 val_main_v53 val_main_v52
  pointwise [val_main_v57, val_main_v64]
  rw [val31 H, val51 H]
  have hw := H.ty (ix2 b t)
  have e1 : IntOp.cmpi CmpIPredicate.ne (x1 (ix2 b t)) (val_main_c_12 (F := Ideal) ix0) = 1#1 := by
    have hne : x1 (ix2 b t) ≠ 32#32 := fun h => by rw [h] at hw; exact absurd hw (by decide)
    show BitVec.ofBool (x1 (ix2 b t) != 32#32) = 1#1
    rw [bne_iff_ne.2 hne]
    rfl
  have e2 : IntOp.minsi (val_main_call7_v4 (F := Ideal) (ix2 b t)) (val_main_call7_v2 (F := Ideal) x1 (ix2 b t)) = x1 (ix2 b t) := clip_id _ hw
  have e3 : val_main_cst_11 (F := Ideal) ix0 = ten := rfl
  rw [e1, e2, e3]
  have e4 : IntOp.cmpi CmpIPredicate.eq (x1 (ix2 b t)) (BitVec.ofNat 32 k.val) = 1#1 ↔ (x1 (ix2 b t)).toNat = k.val := by
    have hk := k.isLt
    constructor
    · intro h
      have h' : x1 (ix2 b t) = BitVec.ofNat 32 k.val := by
        by_contra hn
        have h2 : BitVec.ofBool (x1 (ix2 b t) == BitVec.ofNat 32 k.val) = 1#1 := h
        rw [beq_eq_false_iff_ne.2 hn] at h2
        exact absurd h2 (by decide)
      rw [h', BitVec.toNat_ofNat]
      omega
    · intro h
      have h' : x1 (ix2 b t) = BitVec.ofNat 32 k.val := by
        apply BitVec.eq_of_toNat_eq
        rw [h, BitVec.toNat_ofNat]
        omega
      show BitVec.ofBool (x1 (ix2 b t) == BitVec.ofNat 32 k.val) = 1#1
      rw [beq_iff_eq.2 h']
      rfl
  rw [IntOp.andi_eq_one, IntOp.andi_eq_one, IntOp.andi_eq_one, e4]
  constructor
  · rintro ⟨⟨⟨h1, h2⟩, -⟩, h3⟩
    exact ⟨ofBool_one h1, ofBool_one h2, h3⟩
  · rintro ⟨h1, h2, h3⟩
    exact ⟨⟨⟨by rw [decide_eq_true h1]; rfl, by rw [decide_eq_true h2]; rfl⟩, rfl⟩, h3⟩

omit H in
theorem fold80 (v : FVec Ideal S32x256x2048x32 .f32) (b : Fin 32) (s : Fin 256) (k : Fin 32) :
    Host.reduce FloatOps.maximumf v (val_main_cst_15 (F := Ideal)) reducesTo_S32x256x2048x32_S32x256x32_d2 h_S_ (ix3 b s k)
      = Finset.univ.fold max (⊥ : EReal) (fun t : Fin 2048 => v (ix4 b s t k)) := by
  pointwise [val_main_cst_15]
  rw [ninf_val]

theorem val82 (b : Fin 32) (s : Fin 256) (k : Fin 32) [Decidable (Hit x0 x1 x3 b s k)] :
    val_main_v82 (F := Ideal) x0 x1 x2 x3 (ix3 b s k) = if Hit x0 x1 x3 b s k then (1 : EReal) else 0 := by
  have e0 : val_main_v82 (F := Ideal) x0 x1 x2 x3 (ix3 b s k) = max (val_main_v80 (F := Ideal) x0 x1 x2 x3 (ix3 b s k)) (0 : EReal) := by
    rw [val_main_v82_apply, val_main_v81_apply]
    exact congrArg (max _) zero_val
  have e1 : val_main_v80 (F := Ideal) x0 x1 x2 x3 (ix3 b s k)
      = Finset.univ.fold max (⊥ : EReal) (fun t : Fin 2048 => val_main_v79 (F := Ideal) x0 x1 x2 x3 (ix4 b s t k)) := fold80 _ b s k
  have e2 : ∀ t : Fin 2048, val_main_v79 (F := Ideal) x0 x1 x2 x3 (ix4 b s t k)
      = (((val_main_v78 (F := Ideal) x0 x1 x2 x3 (ix4 b s t k)).toNat : ℝ) : EReal) := fun t => rfl
  rw [e0, e1]
  simp only [e2]
  have hle : ∀ t : Fin 2048, (((val_main_v78 (F := Ideal) x0 x1 x2 x3 (ix4 b s t k)).toNat : ℝ) : EReal) ≤ 1 := by
    intro t
    have h := (val_main_v78 (F := Ideal) x0 x1 x2 x3 (ix4 b s t k)).isLt
    have h' : (val_main_v78 (F := Ideal) x0 x1 x2 x3 (ix4 b s t k)).toNat ≤ 1 := by omega
    exact_mod_cast h'
  by_cases hh : Hit x0 x1 x3 b s k
  · rw [if_pos hh]
    obtain ⟨t, ht⟩ := hh
    have h1 := (val78 H b s t k).2 ht
    refine le_antisymm (max_le (Finset.fold_max_le _ |>.2 ⟨bot_le, fun t _ => hle t⟩) zero_le_one) ?_
    refine le_max_of_le_left (Finset.le_fold_max _ |>.2 (Or.inr ⟨t, Finset.mem_univ _, ?_⟩))
    rw [h1]
    simp
  · rw [if_neg hh]
    refine le_antisymm (max_le (Finset.fold_max_le _ |>.2 ⟨bot_le, fun t _ => ?_⟩) le_rfl) (le_max_right _ _)
    have hz : (val_main_v78 (F := Ideal) x0 x1 x2 x3 (ix4 b s t k)).toNat = 0 := by
      have hlt := (val_main_v78 (F := Ideal) x0 x1 x2 x3 (ix4 b s t k)).isLt
      have hn : ¬ val_main_v78 (F := Ideal) x0 x1 x2 x3 (ix4 b s t k) = 1#1 := fun h => hh ⟨t, (val78 H b s t k).1 h⟩
      have : (val_main_v78 (F := Ideal) x0 x1 x2 x3 (ix4 b s t k)).toNat ≠ 1 := fun h => hn (BitVec.eq_of_toNat_eq h)
      omega
    rw [hz]
    simp

end times
end Cert.Proof

end

end
-- ==== Proof.Cells.lean ====
/-
  A sample's five columns over the extended reals: the time, the gap and the type at the last event not later than the
  sample, and the word of the types that follow in the window.
-/
module

public import proofs.«01_k».proof.Proof.Rows
public import proofs.«01_k».proof.Proof.RefVal

@[expose] public section

set_option maxRecDepth 16384

noncomputable section

namespace Cert.Proof

open Cert.KernelIdeal Cert.KernelIdeal.Gen
open Idealize.ShloMosaic

/-! ## A task's rows -/

theorem ix1_val (t : Fin 2048) : ix1 t.val = Idealize.ShloMosaic.ix1 t := by
  funext a
  obtain rfl : a = 0 := Subsingleton.elim _ _
  exact Fin.ext (Nat.mod_eq_of_lt t.isLt)

theorem ix1_mod (n : ℕ) : ix1 n = Idealize.ShloMosaic.ix1 (⟨n % 2048, lt2048 n⟩ : Fin 2048) := by
  funext a
  obtain rfl : a = 0 := Subsingleton.elim _ _
  rfl

theorem sq2048 {α : Type} (v : S1x2048.Idx → α) (h) (t : Fin 2048) : shapeCast S2048 v h (Idealize.ShloMosaic.ix1 t) = v (ix2 (0 : Fin 1) t) := by
  pointwise

theorem sq256 {α : Type} (v : S1x256.Idx → α) (h) (t : Fin 256) : shapeCast S256 v h (Idealize.ShloMosaic.ix1 t) = v (ix2 (0 : Fin 1) t) := by
  pointwise

theorem sq32 {α : Type} (v : S1x32.Idx → α) (h) (t : Fin 32) : shapeCast S32 v h (Idealize.ShloMosaic.ix1 t) = v (ix2 (0 : Fin 1) t) := by
  pointwise

theorem sqA {α : Type} (v : S1x256x128.Idx → α) (h) (s : Fin 256) (c : Fin 128) : shapeCast S256x128 v h (ix2 s c) = v (ix3 (0 : Fin 1) s c) := by
  pointwise

/-- Lane `x` of the first sixteen of thirty-two, and of the last. -/
def laneLo (x : S16.Idx) : Fin 32 := ⟨(x 0).val, lt_trans (show (x 0).val < 16 from (x 0).isLt) (by decide)⟩
def laneHi (x : S16.Idx) : Fin 32 := ⟨16 + (x 0).val, Nat.add_lt_add_left (show (x 0).val < 16 from (x 0).isLt) 16⟩

section rows
variable (p : TaskIx) (b : Fin 32) (hp : rowNo p = b.val)
include hp

theorem tvR_at (g : Vec Ideal S32x2048 .f32) (t : Fin 2048) : tvR (tk p) g (Idealize.ShloMosaic.ix1 t) = g (ix2 b t) := by
  refine (sq2048 ((ghT).view.readAt (Elt Ideal) (Rect.unit (s := S32x2048) (k0_off1 (tk p)) S1x2048.size (k0_off1_inb (tk p))).toLoadRect g) _ t).trans ?_
  rw [View.readAt_apply, show (ghT).view.read (Elt Ideal) g = g from View.read_whole _ _]
  refine congrArg g (funext fun a => Fin.ext ?_)
  rw [LoadRect.idx_apply]
  match a with
  | ⟨0, _⟩ => show k0_off1 (tk p) 0 + 1 * 0 = b.val; rw [k0_off1_eq]; exact hp
  | ⟨1, _⟩ => show k0_off1 (tk p) 1 + 1 * t.val = t.val; rw [k0_off1_eq]; show 0 + 1 * t.val = t.val; omega

theorem tyR_at (g : Vec Ideal S32x2048 .i32) (t : Fin 2048) : tyR (F := Ideal) (tk p) g (Idealize.ShloMosaic.ix1 t) = g (ix2 b t) := by
  refine (sq2048 ((ghY).view.readAt (Elt Ideal) (Rect.unit (s := S32x2048) (k0_off1 (tk p)) S1x2048.size (k0_off1_inb (tk p))).toLoadRect g) _ t).trans ?_
  rw [View.readAt_apply, show (ghY).view.read (Elt Ideal) g = g from View.read_whole _ _]
  refine congrArg g (funext fun a => Fin.ext ?_)
  rw [LoadRect.idx_apply]
  match a with
  | ⟨0, _⟩ => show k0_off1 (tk p) 0 + 1 * 0 = b.val; rw [k0_off1_eq]; exact hp
  | ⟨1, _⟩ => show k0_off1 (tk p) 1 + 1 * t.val = t.val; rw [k0_off1_eq]; show 0 + 1 * t.val = t.val; omega

theorem uvR_at (g : Vec Ideal S32x256 .f32) (s : Fin 256) : uvR (tk p) g (Idealize.ShloMosaic.ix1 s) = g (ix2 b s) := by
  refine (sq256 ((ghU).view.readAt (Elt Ideal) (Rect.unit (s := S32x256) (k0_off2 (tk p)) S1x256.size (k0_off2_inb (tk p))).toLoadRect g) _ s).trans ?_
  rw [View.readAt_apply, show (ghU).view.read (Elt Ideal) g = g from View.read_whole _ _]
  refine congrArg g (funext fun a => Fin.ext ?_)
  rw [LoadRect.idx_apply]
  match a with
  | ⟨0, _⟩ => show k0_off2 (tk p) 0 + 1 * 0 = b.val; rw [k0_off2_eq]; exact hp
  | ⟨1, _⟩ => show k0_off2 (tk p) 1 + 1 * s.val = s.val; rw [k0_off2_eq]; show 0 + 1 * s.val = s.val; omega

theorem fvR_at (g : Vec Ideal S32x32 .f32) (l : Fin 32) : fvR (tk p) g (Idealize.ShloMosaic.ix1 l) = g (ix2 b l) := by
  refine (sq32 ((ghF).view.readAt (Elt Ideal) (Rect.unit (s := S32x32) (k0_off3 (tk p)) S1x32.size (k0_off3_inb (tk p))).toLoadRect g) _ l).trans ?_
  rw [View.readAt_apply, show (ghF).view.read (Elt Ideal) g = g from View.read_whole _ _]
  refine congrArg g (funext fun a => Fin.ext ?_)
  rw [LoadRect.idx_apply]
  match a with
  | ⟨0, _⟩ => show k0_off3 (tk p) 0 + 1 * 0 = b.val; rw [k0_off3_eq]; exact hp
  | ⟨1, _⟩ => show k0_off3 (tk p) 1 + 1 * l.val = l.val; rw [k0_off3_eq]; show 0 + 1 * l.val = l.val; omega

theorem rowA_at (g : Vec Ideal S32x256x128 .f32) (s : Fin 256) (c : Fin 128) : (rowA (tk p)).view.read (Elt Ideal) g (ix2 s c) = g (ix3 b s c) := by
  refine (sqA ((ghA).view.readAt (Elt Ideal) (Rect.unit (s := S32x256x128) (k0_off6 (tk p)) S1x256x128.size (k0_off6_inb (tk p))).toLoadRect g) _ s c).trans ?_
  rw [View.readAt_apply, show (ghA).view.read (Elt Ideal) g = g from View.read_whole _ _]
  refine congrArg g (funext fun a => Fin.ext ?_)
  rw [LoadRect.idx_apply]
  match a with
  | ⟨0, _⟩ => show k0_off6 (tk p) 0 + 1 * 0 = b.val; rw [k0_off6_eq]; exact hp
  | ⟨1, _⟩ => show k0_off6 (tk p) 1 + 1 * s.val = s.val; rw [k0_off6_eq]; show 0 + 1 * s.val = s.val; omega
  | ⟨2, _⟩ => show k0_off6 (tk p) 2 + 1 * c.val = c.val; rw [k0_off6_eq]; show 0 + 1 * c.val = c.val; omega

theorem firstR_at (g : Vec Ideal S32x32 .f32) (x : S16.Idx) : firstR (tk p) g x = g (ix2 b (laneLo x)) := by
  rw [← fvR_at p b hp g]
  unfold firstR
  rw [View.readAt_apply, show (fM).view.read (Elt Ideal) (fvR (tk p) g) = fvR (tk p) g from View.read_whole _ _]
  refine congrArg (fvR (tk p) g) (funext fun a => Fin.ext ?_)
  rw [LoadRect.idx_apply]
  obtain rfl : a = 0 := Subsingleton.elim _ _
  show 0 + 1 * (x 0).val = (x 0).val
  omega

theorem scaleR_at (g : Vec Ideal S32x32 .f32) (x : S16.Idx) : scaleR (tk p) g x = g (ix2 b (laneHi x)) := by
  rw [← fvR_at p b hp g]
  unfold scaleR
  rw [View.readAt_apply, show (fM).view.read (Elt Ideal) (fvR (tk p) g) = fvR (tk p) g from View.read_whole _ _]
  refine congrArg (fvR (tk p) g) (funext fun a => Fin.ext ?_)
  rw [LoadRect.idx_apply]
  obtain rfl : a = 0 := Subsingleton.elim _ _
  show 16 + 1 * (x 0).val = 16 + (x 0).val
  omega

end rows

/-! ## The columns -/

/-- What a sample's row must hold. -/
structure Cells (x0 : FVec Ideal S32x2048 .f32) (x1 : IVec S32x2048 32) (x3 : FVec Ideal S32x256 .f32) (b : Fin 32) (s : Fin 256) (f : ℕ → EReal) (p : ℕ) (a : BitVec 32) : Prop where
  pos : IsPos (rowT2 x0 b) (stT x0 x3 b s) p
  c0 : f 0 = rowT2 x0 b p
  c1 : f 1 = stT x0 x3 b s - rowT2 x0 b p
  c2 : f 2 = (((x1 (posT b p)).toInt : ℝ) : EReal)
  c3 : f 3 = (((IntOp.andi a 65535#32).toInt : ℝ) : EReal)
  c4 : f 4 = (((IntOp.shrui .vector a 16#32).toInt : ℝ) : EReal)
  bits : ∀ k : Fin 32, a.getLsbD k.val = true ↔ Hit x0 x1 x3 b s k

theorem cells {x0 : FVec Ideal S32x2048 .f32} {x1 : IVec S32x2048 32} {x2 : IVec S32x2048 1} {x3 : FVec Ideal S32x256 .f32} (H : Hyp x0 x1 x2 x3)
    (b : Fin 32) (s : Fin 256) (tv : Vec Ideal S2048 .f32) (ty : Vec Ideal S2048 .i32) (uv : Vec Ideal S256 .f32) (first scale : Vec Ideal S16 .f32)
    (htv : ∀ t : Fin 2048, tv (Idealize.ShloMosaic.ix1 t) = x0 (ix2 b t)) (hty : ∀ t : Fin 2048, ty (Idealize.ShloMosaic.ix1 t) = x1 (ix2 b t))
    (huv : uv (Idealize.ShloMosaic.ix1 s) = x3 (ix2 b s)) (hf : ∀ x, first x = rowT2 x0 b 0) (hc : ∀ x, scale x = scaleT x0 b) :
    ∃ p a, Cells x0 x1 x3 b s (fun c => cellV (F := Ideal) tv ty uv first scale s.val c) p a := by
  have er : rowOf tv = rowT2 x0 b := by
    funext t
    show tv (ix1 t) = _
    rw [ix1_mod, htv]
    rfl
  have ey : ∀ t, ty (ix1 t) = x1 (posT b t) := by
    intro t
    rw [ix1_mod, hty]
    rfl
  have hs : s.val < 256 := s.isLt
  generalize hx : (Shape.ofLane (⟨s.val % 16, Nat.mod_lt _ (by decide)⟩ : Fin 16) : S16.Idx) = x
  have hx0 : (x 0).val = s.val % 16 := by rw [← hx]; rfl
  generalize hst : stV (u16 uv (s.val / 16)) scale first = st
  have est : st x = stT x0 x3 b s := by
    rw [← hst]
    show (u16 uv (s.val / 16) x : EReal) * scale x + first x = _
    rw [hf, hc]
    have : u16 uv (s.val / 16) x = x3 (ix2 b s) := by
      rw [← huv]
      refine congrArg uv (funext fun a => Fin.ext ?_)
      obtain rfl : a = 0 := Subsingleton.elim _ _
      show (16 * (s.val / 16) + (x 0).val) % 256 = s.val
      rw [hx0]
      omega
    rw [this]
    rfl
  have hi : hiV st x = stT x0 x3 b s + ten := by
    show (st x : EReal) + ten = _
    rw [est]
  have hge := st_ge H b s
  have hten : (0 : EReal) ≤ ten := by
    obtain ⟨r, h0, e⟩ := ten_val
    show (0 : EReal) ≤ Ideal.ofBits .f32 0x41200000#32
    rw [e]
    exact_mod_cast h0
  have hge2 : rowT2 x0 b 0 ≤ stT x0 x3 b s + ten := hge.trans (le_add_of_nonneg_right hten)
  have p1 := srch_pos tv st x (by rw [er]; exact H.sorted b) (by rw [er, est]; exact hge)
  have p2 := srch_pos tv (hiV st) x (by rw [er]; exact H.sorted b) (by rw [er, hi]; exact hge2)
  rw [er, est] at p1
  rw [er, hi] at p2
  refine ⟨(srch tv st x).toNat, accV ty (srch tv st) (subi (srch tv (hiV st)) (srch tv st)) x, p1, ?_, ?_, ?_, ?_, ?_, ?_⟩
  · show colV tv ty (stV (u16 uv (s.val / 16)) scale first) 0 _ = _
    rw [hx, hst, ← er]
    rfl
  · show colV tv ty (stV (u16 uv (s.val / 16)) scale first) 1 _ = _
    rw [hx, hst, ← er, ← est]
    rfl
  · show colV tv ty (stV (u16 uv (s.val / 16)) scale first) 2 _ = _
    rw [hx, hst, ← ey]
    rfl
  · show colV tv ty (stV (u16 uv (s.val / 16)) scale first) 3 _ = _
    rw [hx, hst]
    rfl
  · show colV tv ty (stV (u16 uv (s.val / 16)) scale first) 4 _ = _
    rw [hx, hst]
    rfl
  · intro k
    rw [accV_bit ty _ _ (srch_bd tv st) (srch_bd tv (hiV st)) x (fun t => by rw [ey]; exact H.ty _) k.val]
    constructor
    · rintro ⟨t, h1, h2, h3⟩
      have ht : t < 2048 := lt_of_le_of_lt h2 p2.1
      refine ⟨⟨t, ht⟩, ?_, ?_, ?_⟩
      · rw [← posT_val]
        exact not_le.1 fun h => absurd ((p1.2 t ht).1 h) (Nat.not_le.2 h1)
      · rw [← posT_val]
        exact (p2.2 t ht).2 h2
      · rw [← posT_val, ← ey]
        exact h3
    · rintro ⟨t, h1, h2, h3⟩
      rw [← posT_val] at h1 h2 h3
      refine ⟨t.val, ?_, (p2.2 t.val t.isLt).1 h2, ?_⟩
      · exact Nat.not_le.1 fun h => absurd ((p1.2 t.val t.isLt).2 h) (not_le.2 h1)
      · rw [ey]
        exact h3

end Cert.Proof

end

end
-- ==== Proof.HostVal.lean ====
/-
  What the host's two straight lines leave: the first and the scale of a row, lane by lane, and the call's result and the
  weights laid out for the dense part.
-/
module

public import proofs.«01_k».proof.Proof.Frames
public import proofs.«01_k».proof.Proof.Cells

@[expose] public section

set_option maxRecDepth 16384

noncomputable section

namespace Cert.Proof

open Cert.KernelIdeal Cert.KernelIdeal.Gen
open Idealize.ShloMosaic

/-- A row's first time, -/
def hFirst (x0 : FVec Ideal S32x2048 .f32) : FVec Ideal S32 .f32 :=
  shapeCast S32 (extractStridedSlice S32x1 ![0, 0] x0 slices_S32x2048_S32x1_0_0) shapeCasts_S32x1_S32
/-- its last, -/
def hLast (x0 : FVec Ideal S32x2048 .f32) : FVec Ideal S32 .f32 :=
  shapeCast S32 (extractStridedSlice S32x1 ![0, 2047] x0 slices_S32x2048_S32x1_0_2047) shapeCasts_S32x1_S32
/-- and the length it samples. -/
def hScale (x0 : FVec Ideal S32x2048 .f32) : FVec Ideal S32 .f32 :=
  subf (maximumf (subf (hLast x0) (broadcastInDim S32 ![] bcast_S_S32 (constant S_ .f32 0x41200000#32))) (hFirst x0)) (hFirst x0)
/-- A vector over the rows, in sixteen lanes. -/
def hLanes (v : FVec Ideal S32 .f32) : FVec Ideal S32x16 .f32 :=
  broadcastInDim S32x16 ![0, 1] bcast_S32x1_S32x16_0_1 (broadcastInDim S32x1 ![0] bcast_S32_S32x1_0 v)

theorem v12_eq (V : Valuation τ sig (Elt Ideal)) :
    StableHlo.after (hostOps0 (F := Ideal)) V (rf main_v12)
      = concatenate S32x32 1 [⟨S32x16, hLanes (hFirst (V (rf main_arg0)))⟩, ⟨S32x16, hLanes (hScale (V (rf main_arg0)))⟩] concatenates_S32x16_S32x16_S32x32_d1 := by
  simp only [hostOps0]
  after_results_simp
  all_goals rfl

theorem hFirst_at (x0 : FVec Ideal S32x2048 .f32) (b : Fin 32) : hFirst x0 (Idealize.ShloMosaic.ix1 b) = rowT2 x0 b 0 := by
  unfold hFirst
  pointwise
  exact congrArg x0 (posT_val b 0).symm

theorem hLast_at (x0 : FVec Ideal S32x2048 .f32) (b : Fin 32) : hLast x0 (Idealize.ShloMosaic.ix1 b) = rowT2 x0 b 2047 := by
  unfold hLast
  pointwise
  exact congrArg x0 (posT_val b 2047).symm

theorem hScale_at (x0 : FVec Ideal S32x2048 .f32) (b : Fin 32) : hScale x0 (Idealize.ShloMosaic.ix1 b) = scaleT x0 b := by
  have e1 := hFirst_at x0 b
  have e2 := hLast_at x0 b
  unfold hScale
  generalize hFirst x0 = f at e1 ⊢
  generalize hLast x0 = l at e2 ⊢
  show max ((l (Idealize.ShloMosaic.ix1 b) : EReal) - ten) (f (Idealize.ShloMosaic.ix1 b)) - f (Idealize.ShloMosaic.ix1 b) = _
  rw [e1, e2]
  rfl

theorem hLanes_at (v : FVec Ideal S32 .f32) (b : Fin 32) (l : Fin 16) : hLanes v (ix2 b l) = v (Idealize.ShloMosaic.ix1 b) := by
  unfold hLanes
  pointwise

/-- A lane of sixteen. -/
def laneOf (x : S16.Idx) : Fin 16 := ⟨(x 0).val, (x 0).isLt⟩

theorem cat_lo (u v : FVec Ideal S32x16 .f32) (b : Fin 32) (x : S16.Idx) :
    concatenate S32x32 1 [⟨S32x16, u⟩, ⟨S32x16, v⟩] concatenates_S32x16_S32x16_S32x32_d1 (ix2 b (laneLo x)) = u (ix2 b (laneOf x)) := by
  have h : (laneLo x).val < 16 := (x 0).isLt
  generalize hl : laneLo x = l at h ⊢
  have e : laneOf x = ⟨l.val, h⟩ := Fin.ext (congrArg (fun l : Fin 32 => l.val) hl)
  rw [e]
  pointwise
  rw [dif_pos h]

theorem cat_hi (u v : FVec Ideal S32x16 .f32) (b : Fin 32) (x : S16.Idx) :
    concatenate S32x32 1 [⟨S32x16, u⟩, ⟨S32x16, v⟩] concatenates_S32x16_S32x16_S32x32_d1 (ix2 b (laneHi x)) = v (ix2 b (laneOf x)) := by
  have h : ¬ (laneHi x).val < 16 := Nat.not_lt.2 (Nat.le_add_right 16 _)
  have e' : (laneHi x).val - 16 = (x 0).val := Nat.add_sub_cancel_left 16 _
  generalize hl : laneHi x = l at h e' ⊢
  have e : laneOf x = ⟨l.val - 16, by rw [e']; exact (x 0).isLt⟩ := Fin.ext e'.symm
  rw [e]
  pointwise
  rw [dif_neg h]

variable (m : (ℓ : Loc nD τ sig) → Buf (Elt Ideal) ℓ) (d : Dev nD)

/-- The arguments. -/
abbrev argAt (r : Ref sig .tc) : Buf (Elt Ideal) ((d.tc : Thread nD τ).loc r) := m ((d.tc : Thread nD τ).loc r)

theorem cT_eq : cT m d = argAt m d main_arg0 := host0_writes _ _ (by decide)
theorem cY_eq : cY m d = argAt m d main_arg1 := host0_writes _ _ (by decide)
theorem cU_eq : cU m d = argAt m d main_arg3 := host0_writes _ _ (by decide)
theorem cF_lo (b : Fin 32) (x : S16.Idx) : cF m d (ix2 b (laneLo x)) = rowT2 (argAt m d main_arg0) b 0 := by
  refine (congrFun (v12_eq _) _).trans ?_
  rw [cat_lo, hLanes_at, hFirst_at]
theorem cF_hi (b : Fin 32) (x : S16.Idx) : cF m d (ix2 b (laneHi x)) = scaleT (argAt m d main_arg0) b := by
  refine (congrFun (v12_eq _) _).trans ?_
  rw [cat_hi, hLanes_at, hScale_at]

/-- What the call left, column by column. -/
theorem good_cells {x2 : IVec S32x2048 1} (H : Hyp (argAt m d main_arg0) (argAt m d main_arg1) x2 (argAt m d main_arg3)) (g : Vec Ideal S32x256x128 .f32) (hg : Good m d g)
    (b : Fin 32) (s : Fin 256) : ∃ p a f, Cells (argAt m d main_arg0) (argAt m d main_arg1) (argAt m d main_arg3) b s f p a
      ∧ ∀ c : Fin 128, c.val < 5 → g (ix3 b s c) = f c.val := by
  have hp := rowNo_taskOf b.val b.isLt
  obtain ⟨p, a, h⟩ := cells H b s (tvR (tk (taskOf b.val b.isLt)) (cT m d)) (tyR (F := Ideal) (tk (taskOf b.val b.isLt)) (cY m d)) (uvR (tk (taskOf b.val b.isLt)) (cU m d))
    (firstR (tk (taskOf b.val b.isLt)) (cF m d)) (scaleR (tk (taskOf b.val b.isLt)) (cF m d))
    (fun t => by rw [tvR_at _ b hp, cT_eq]) (fun t => by rw [tyR_at _ b hp, cY_eq]) (by rw [uvR_at _ b hp, cU_eq])
    (fun x => by rw [firstR_at _ b hp, cF_lo]) (fun x => by rw [scaleR_at _ b hp, cF_hi])
  refine ⟨p, a, _, h, fun c hc => ?_⟩
  rw [← rowA_at _ b hp g s c]
  exact hg (taskOf b.val b.isLt) (ix2 s c) hc

/-! ## The dense part's operands -/

variable (g : Vec Ideal S32x256x128 .f32)

theorem v14_eq : W3 m d g (rf main_v14) = shapeCast S8192x128 g shapeCasts_S32x256x128_S8192x128 := by
  have h := W2_at m d g
  unfold W3
  generalize W2 m d g = V at h ⊢
  subst h
  simp only [hostOps1]
  after_results_simp
  all_goals rfl

theorem W3_arg (r : Ref sig .tc) (h1 : r ∉ host1W) (h13 : r ≠ main_v13) (h0 : r ∉ host0W) : W3 m d g (rf r) = m ((d.tc : Thread nD τ).loc r) := by
  unfold W3
  rw [host1_writes _ r h1, W2_ne m d g (rf r) (fun e => h13 (Proc.devRef_injective _ e))]
  unfold W1
  rw [host0_writes _ r h0]

theorem W2_arg (r : Ref sig .tc) (h13 : r ≠ main_v13) (h0 : r ∉ host0W) : W2 m d g (rf r) = m ((d.tc : Thread nD τ).loc r) := by
  rw [W2_ne m d g (rf r) (fun e => h13 (Proc.devRef_injective _ e))]
  unfold W1
  rw [host0_writes _ r h0]

theorem v15_eq : W3 m d g (rf main_v15) = shapeCast S1x256 (argAt m d main_arg5) shapeCasts_S256_S1x256 := by
  have h := W2_arg m d g main_arg5 (by decide) (by decide)
  unfold argAt W3
  rw [← h]
  generalize W2 m d g = V
  simp only [hostOps1]
  after_results_simp
  all_goals rfl

theorem v16_eq : W3 m d g (rf main_v16) = shapeCast S1x256 (argAt m d main_arg7) shapeCasts_S256_S1x256 := by
  have h := W2_arg m d g main_arg7 (by decide) (by decide)
  unfold argAt W3
  rw [← h]
  generalize W2 m d g = V
  simp only [hostOps1]
  after_results_simp
  all_goals rfl

theorem v17_eq : W3 m d g (rf main_v17) = shapeCast S1x32 (argAt m d main_arg9) shapeCasts_S32_S1x32 := by
  have h := W2_arg m d g main_arg9 (by decide) (by decide)
  unfold argAt W3
  rw [← h]
  generalize W2 m d g = V
  simp only [hostOps1]
  after_results_simp
  all_goals rfl

end Cert.Proof

end

end
-- ==== Proof.Dense.lean ====
/-
  The dense part at an index: the probabilities and the labels it stores, from the five columns of its first window.
-/
module

public import proofs.«01_k».proof.Proof.Region
public import proofs.«01_k».proof.Proof.RefVal

@[expose] public section

set_option maxRecDepth 16384

noncomputable section

namespace Cert.Proof

open Cert.KernelIdeal Cert.KernelIdeal.Gen
open Idealize.ShloMosaic

/-- Row `g 256 + s` of a block of 2048. -/
def brow (g : Fin 8) (s : Fin 256) : Fin 2048 := ⟨g.val * 256 + s.val, by have := g.isLt; have := s.isLt; omega⟩

theorem col_at (c : ℕ) (hc : c < 128) (inb : ∀ a, (![0, c] : Fin 2 → ℕ) a + S2048x1.size a ≤ S2048x128.size a) (x : Vec Ideal S2048x128 .f32) (r : Fin 2048) :
    colOf c inb x (ix2 r (0 : Fin 1)) = x (ix2 r (⟨c, hc⟩ : Fin 128)) := by
  unfold colOf
  refine congrArg x (funext fun a => Fin.ext ?_)
  match a with
  | ⟨0, _⟩ => exact (Nat.zero_add _).trans (Nat.one_mul _)
  | ⟨1, _⟩ => exact Nat.add_zero _

theorem outL_at (x0 : Vec Ideal S2048x128 .f32) (g : Fin 8) (s : Fin 256) (k : Fin 32) (a : BitVec 32)
    (h3 : x0 (ix2 (brow g s) (3 : Fin 128)) = (((IntOp.andi a 65535#32).toInt : ℝ) : EReal))
    (h4 : x0 (ix2 (brow g s) (4 : Fin 128)) = (((IntOp.shrui .vector a 16#32).toInt : ℝ) : EReal)) :
    outL (F := Ideal) x0 (ix3 g s k) = if a.getLsbD k.val = true then (1 : EReal) else 0 := by
  have e3 := (col_at 3 (by decide) inb_S2048x128_S2048x1_0_3 x0 (brow g s)).trans h3
  have e4 := (col_at 4 (by decide) inb_S2048x128_S2048x1_0_4 x0 (brow g s)).trans h4
  unfold outL k1_pay2 k1_pay4
  generalize colOf 3 inb_S2048x128_S2048x1_0_3 x0 = v3 at e3 ⊢
  generalize colOf 4 inb_S2048x128_S2048x1_0_4 x0 = v4 at e4 ⊢
  pointwise
  have f3 : FloatOps.fptosi (F := Ideal) (φ := .f32) 32 (v3 (ix2 (brow g s) (0 : Fin 1))) = IntOp.andi a 65535#32 := by
    rw [e3]
    exact fptosi_sitofp _
  have f4 : FloatOps.fptosi (F := Ideal) (φ := .f32) 32 (v4 (ix2 (brow g s) (0 : Fin 1))) = IntOp.shrui .vector a 16#32 := by
    rw [e4]
    exact fptosi_sitofp _
  have hk := k.isLt
  have ek : (BitVec.ofNat 32 k.val).toNat = k.val := by rw [BitVec.toNat_ofNat]; omega
  have hb := bit_out a (BitVec.ofNat 32 k.val) (by rw [ek]; exact hk)
  rw [ek] at hb
  have e : IntOp.andi (IntOp.shrsi ArithUnit.vector
      (IntOp.ori (FloatOps.fptosi (F := Ideal) (φ := .f32) 32 (v3 (ix2 (brow g s) (0 : Fin 1))))
        (IntOp.shli ArithUnit.vector (FloatOps.fptosi (F := Ideal) (φ := .f32) 32 (v4 (ix2 (brow g s) (0 : Fin 1)))) 16#32)) (BitVec.ofNat 32 k.val)) 1#32
      = if a.getLsbD k.val = true then 1#32 else 0#32 := by
    rw [f3, f4, halves, hb]
  refine (congrArg (FloatOps.sitofp (F := Ideal) .f32) e).trans ?_
  have c1 : (1#32 : BitVec 32).toInt = 1 := by decide
  have c0 : (0#32 : BitVec 32).toInt = 0 := by decide
  by_cases h : a.getLsbD k.val = true
  · rw [if_pos h, if_pos h]
    show (((1#32 : BitVec 32).toInt : ℝ) : EReal) = 1
    rw [c1]
    simp
  · rw [if_neg h, if_neg h]
    show (((0#32 : BitVec 32).toInt : ℝ) : EReal) = 0
    rw [c0]
    simp

/-- The word of a type, compared against every type in turn. -/
theorem onehot (w : BitVec 32) (hw : w.toNat < 32) (f : Fin 32 → EReal) :
    (∑ j : Fin 32, FloatOps.sitofp (F := Ideal) .f32 (BitVec.setWidth 32 (IntOp.cmpi .eq (BitVec.ofNat 32 j.val) w)) * f j : EReal) = f ⟨w.toNat, hw⟩ := by
  have c1 : (BitVec.setWidth 32 (1#1 : BitVec 1)).toInt = 1 := by decide
  have c0 : (BitVec.setWidth 32 (0#1 : BitVec 1)).toInt = 0 := by decide
  rw [Finset.sum_eq_single (⟨w.toNat, hw⟩ : Fin 32)]
  · have e : IntOp.cmpi .eq (BitVec.ofNat 32 w.toNat) w = 1#1 := by
      show BitVec.ofBool (BitVec.ofNat 32 w.toNat == w) = 1#1
      rw [BitVec.ofNat_toNat, BitVec.setWidth_eq, beq_self_eq_true]
      rfl
    show (((BitVec.setWidth 32 (IntOp.cmpi .eq (BitVec.ofNat 32 w.toNat) w)).toInt : ℝ) : EReal) * _ = _
    rw [e, c1]
    simp
  · intro j _ hj
    have hne : BitVec.ofNat 32 j.val ≠ w := fun h => hj (Fin.ext (by
      have hj' := j.isLt
      have h' := congrArg BitVec.toNat h
      rw [BitVec.toNat_ofNat] at h'
      show j.val = w.toNat
      omega))
    have e : IntOp.cmpi .eq (BitVec.ofNat 32 j.val) w = 0#1 := by
      show BitVec.ofBool (BitVec.ofNat 32 j.val == w) = 0#1
      rw [beq_eq_false_iff_ne.2 hne]
      rfl
    show (((BitVec.setWidth 32 (IntOp.cmpi .eq (BitVec.ofNat 32 j.val) w)).toInt : ℝ) : EReal) * _ = _
    rw [e, c0]
    simp
  · exact fun h => absurd (Finset.mem_univ _) h

theorem pay5_at (v0 v4 : Vec Ideal S2048x1 .f32) (v26 : Vec Ideal S256x256 .f32) (v28 : Vec Ideal S32x256 .f32) (v30 : Vec Ideal S1x256 .f32) (r : Fin 2048) (d : Fin 256)
    (w : BitVec 32) (hw : w.toNat < 32) (h4 : v4 (ix2 r (0 : Fin 1)) = ((w.toInt : ℝ) : EReal)) :
    k1_pay5 (F := Ideal) v0 v4 v26 v28 v30 (ix2 r d)
      = (∑ e : Fin 256, ((v28 (ix2 (⟨w.toNat, hw⟩ : Fin 32) e) : EReal) + v0 (ix2 r (0 : Fin 1)) * v30 (ix2 (0 : Fin 1) e)) * v26 (ix2 e d) : EReal) := by
  have f4 : FloatOps.fptosi (F := Ideal) (φ := .f32) 32 (v4 (ix2 r (0 : Fin 1))) = w := by
    rw [h4]
    exact fptosi_sitofp _
  unfold k1_pay5
  pointwise
  refine Finset.sum_congr rfl fun e _ => ?_
  congr 2
  rw [f4]
  exact onehot w hw (fun j => v28 (ix2 j e))

theorem outP_at (x0 : Vec Ideal S2048x128 .f32) (x1 : Vec Ideal S32x256 .f32) (x2 : Vec Ideal S1x256 .f32) (x3 : Vec Ideal S257x256 .f32) (x4 : Vec Ideal S1x256 .f32)
    (x5 : Vec Ideal S256x32 .f32) (x6 : Vec Ideal S1x32 .f32) (g : Fin 8) (s : Fin 256) (k : Fin 32) (w : BitVec 32) (hw : w.toNat < 32)
    (h2 : x0 (ix2 (brow g s) (2 : Fin 128)) = ((w.toInt : ℝ) : EReal)) :
    outP (F := Ideal) x0 x1 x2 x3 x4 x5 x6 (ix3 g s k)
      = mlp (fun e => (x1 (ix2 (⟨w.toNat, hw⟩ : Fin 32) e) : EReal) + x0 (ix2 (brow g s) (0 : Fin 128)) * x2 (ix2 (0 : Fin 1) e)) (x0 (ix2 (brow g s) (1 : Fin 128))) x3
          (fun i => x4 (ix2 (0 : Fin 1) (i 0))) x5 (fun i => x6 (ix2 (0 : Fin 1) (i 0))) k := by
  have e0 := col_at 0 (by decide) inb_S2048x128_S2048x1_0_0 x0 (brow g s)
  have e1 := col_at 1 (by decide) inb_S2048x128_S2048x1_0_1 x0 (brow g s)
  have e2 := (col_at 2 (by decide) inb_S2048x128_S2048x1_0_2 x0 (brow g s)).trans h2
  unfold outP
  generalize colOf 0 inb_S2048x128_S2048x1_0_0 x0 = v0 at e0 ⊢
  generalize colOf 1 inb_S2048x128_S2048x1_0_1 x0 = v1 at e1 ⊢
  generalize colOf 2 inb_S2048x128_S2048x1_0_2 x0 = v2 at e2 ⊢
  have hp := fun d => pay5_at v0 v2 (View.ld x3 (Rect.unit (s := S257x256) ![0, 0] S256x256.size inb_S257x256_S256x256_0_0)) x1 x2 (brow g s) d w hw e2
  have hw1 : ∀ e d : Fin 256, View.ld x3 (Rect.unit (s := S257x256) ![0, 0] S256x256.size inb_S257x256_S256x256_0_0) (ix2 e d) = x3 (ix2 (Fin.castSucc e) d) := by
    intro e d
    refine congrArg x3 (funext fun a => Fin.ext ?_)
    match a with
    | ⟨0, _⟩ => exact (Nat.zero_add _).trans (Nat.one_mul _)
    | ⟨1, _⟩ => exact (Nat.zero_add _).trans (Nat.one_mul _)
  generalize k1_pay5 (F := Ideal) v0 v2 (View.ld x3 (Rect.unit (s := S257x256) ![0, 0] S256x256.size inb_S257x256_S256x256_0_0)) x1 x2 = v36 at hp ⊢
  unfold k1_pay1 k1_pay3
  pointwise
  unfold mlp
  have e36 : ∀ d : Fin 256, v36 (ix2 (⟨g.val * 256 + s.val, (brow g s).isLt⟩ : Fin 2048) d) = _ := hp
  have e1' : v1 (ix2 (⟨g.val * 256 + s.val, (brow g s).isLt⟩ : Fin 2048) (0 : Fin 1)) = _ := e1
  have hl : (256 : Fin 257) = Fin.last 256 := rfl
  simp only [e36, e1', e0, hw1, hl]
  rfl

end Cert.Proof

end

end
-- ==== Proof.Final.lean ====
/-
  The two results as the reference has them: each block the dense part writes back, read at an index.
-/
module

public import proofs.«01_k».proof.Proof.HostVal
public import proofs.«01_k».proof.Proof.Dense
public import Idealize.ShloMosaic.Lib.Pipeline.ValueKit.Geometry

@[expose] public section

set_option maxRecDepth 16384

noncomputable section

namespace Cert.Proof

open Cert.KernelIdeal Cert.KernelIdeal.Gen
open Idealize.ShloMosaic

/-! ## The windows' blocks -/

theorem index_0 : ∀ t : Fin cfg1.N, win1_0.index t = ![t.val, 0] := (by decide +kernel : ∀ t : Fin grid1.N, _)
theorem index_1 : ∀ t : Fin cfg1.N, win1_1.index t = ![0, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_6 : ∀ t : Fin cfg1.N, win1_6.index t = ![0, 0] := (by decide +kernel : ∀ t : Fin grid1.N, _)
theorem index_7 : ∀ t : Fin cfg1.N, win1_7.index t = ![t.val, 0, 0] := (by decide +kernel : ∀ t : Fin grid1.N, _)
theorem index_8 : ∀ t : Fin cfg1.N, win1_8.index t = ![t.val, 0, 0] := (by decide +kernel : ∀ t : Fin grid1.N, _)

theorem lt4 (t : Fin cfg1.N) : t.val < 4 := lt_of_lt_of_eq t.isLt (by decide)

/-- The sequence that row `r` of point `t`'s block is of. -/
def seqNo (t : Fin cfg1.N) (r : Fin 8) : Fin 32 := ⟨t.val * 8 + r.val, by have := lt4 t; have := r.isLt; omega⟩

theorem emb_7 (t : Fin cfg1.N) (r : Fin 8) (s : Fin 256) (k : Fin 32) : ((cfg1.win 7).blk t).view.emb (ix3 r s k) = ix3 (seqNo t r) s k := by
  funext a
  apply Fin.ext
  match a with
  | ⟨0, _⟩ => blk_simp [index_7]; rfl
  | ⟨1, _⟩ => blk_simp [index_7]
  | ⟨2, _⟩ => blk_simp [index_7]

theorem emb_8 (t : Fin cfg1.N) (r : Fin 8) (s : Fin 256) (k : Fin 32) : ((cfg1.win 8).blk t).view.emb (ix3 r s k) = ix3 (seqNo t r) s k := by
  funext a
  apply Fin.ext
  match a with
  | ⟨0, _⟩ => blk_simp [index_8]; rfl
  | ⟨1, _⟩ => blk_simp [index_8]
  | ⟨2, _⟩ => blk_simp [index_8]

theorem casts_at (g : Vec Ideal S32x256x128 .f32) (b : Fin 32) (s : Fin 256) (c : Fin 128) (n : Fin 8192) (hn : n.val = b.val * 256 + s.val) :
    shapeCast S8192x128 g shapeCasts_S32x256x128_S8192x128 (ix2 n c) = g (ix3 b s c) := by
  have h : b.val * 256 + s.val < 8192 := hn ▸ n.isLt
  rw [show n = ⟨b.val * 256 + s.val, h⟩ from Fin.ext hn]
  pointwise

variable (W : Dev nD → Valuation τ sig (Elt Ideal)) (d : Dev nD) (t : Fin cfg1.N)

theorem stg_0 (x : Fin 2048) (c : Fin 128) : stg W d 0 t (ix2 x c) = W d (rf main_v14) (ix2 (⟨t.val * 2048 + x.val, by have := lt4 t; have := x.isLt; omega⟩ : Fin 8192) c) := by
  show W d (rf main_v14) (((cfg1.win 0).blk t).view.emb (ix2 x c)) = _
  refine congrArg (W d (rf main_v14)) (funext fun a => Fin.ext ?_)
  match a with
  | ⟨0, _⟩ => blk_simp [index_0]
  | ⟨1, _⟩ => blk_simp [index_0]

theorem stg_1 : stg W d 1 t = W d (rf main_arg4) := by
  funext x
  show W d (rf main_arg4) (((cfg1.win 1).blk t).view.emb x) = _
  refine congrArg (W d (rf main_arg4)) (funext fun a => Fin.ext ?_)
  match a with
  | ⟨0, _⟩ => blk_simp [index_1]
  | ⟨1, _⟩ => blk_simp [index_1]

theorem stg_2 : stg W d 2 t = W d (rf main_v15) := by
  funext x
  show W d (rf main_v15) (((cfg1.win 2).blk t).view.emb x) = _
  refine congrArg (W d (rf main_v15)) (funext fun a => Fin.ext ?_)
  match a with
  | ⟨0, _⟩ => blk_simp [index_2]
  | ⟨1, _⟩ => blk_simp [index_2]

theorem stg_3 : stg W d 3 t = W d (rf main_arg6) := by
  funext x
  show W d (rf main_arg6) (((cfg1.win 3).blk t).view.emb x) = _
  refine congrArg (W d (rf main_arg6)) (funext fun a => Fin.ext ?_)
  match a with
  | ⟨0, _⟩ => blk_simp [index_3]
  | ⟨1, _⟩ => blk_simp [index_3]

theorem stg_4 : stg W d 4 t = W d (rf main_v16) := by
  funext x
  show W d (rf main_v16) (((cfg1.win 4).blk t).view.emb x) = _
  refine congrArg (W d (rf main_v16)) (funext fun a => Fin.ext ?_)
  match a with
  | ⟨0, _⟩ => blk_simp [index_4]
  | ⟨1, _⟩ => blk_simp [index_4]

theorem stg_5 : stg W d 5 t = W d (rf main_arg8) := by
  funext x
  show W d (rf main_arg8) (((cfg1.win 5).blk t).view.emb x) = _
  refine congrArg (W d (rf main_arg8)) (funext fun a => Fin.ext ?_)
  match a with
  | ⟨0, _⟩ => blk_simp [index_5]
  | ⟨1, _⟩ => blk_simp [index_5]

theorem stg_6 : stg W d 6 t = W d (rf main_v17) := by
  funext x
  show W d (rf main_v17) (((cfg1.win 6).blk t).view.emb x) = _
  refine congrArg (W d (rf main_v17)) (funext fun a => Fin.ext ?_)
  match a with
  | ⟨0, _⟩ => blk_simp [index_6]
  | ⟨1, _⟩ => blk_simp [index_6]

/-! ## The results -/

variable (m : (ℓ : Loc nD τ sig) → Buf (Elt Ideal) ℓ)

theorem rows_at (g : Vec Ideal S32x256x128 .f32) (r : Fin 8) (s : Fin 256) (c : Fin 128) :
    stg (fun _ => W3 m d g) d 0 t (ix2 (brow r s) c) = g (ix3 (seqNo t r) s c) := by
  rw [stg_0, v14_eq]
  refine casts_at g (seqNo t r) s c _ ?_
  show t.val * 2048 + (r.val * 256 + s.val) = (t.val * 8 + r.val) * 256 + s.val
  omega

theorem lab_at {x2 : IVec S32x2048 1} (H : Hyp (argAt m d main_arg0) (argAt m d main_arg1) x2 (argAt m d main_arg3)) (g : Vec Ideal S32x256x128 .f32) (hg : Good m d g)
    (r : Fin 8) (s : Fin 256) (k : Fin 32) :
    outL (stg (fun _ => W3 m d g) d 0 t) (ix3 r s k)
      = Cert.ReferenceIdeal.Read.val_main_v82 (F := Ideal) (argAt m d main_arg0) (argAt m d main_arg1) x2 (argAt m d main_arg3) (ix3 (seqNo t r) s k) := by
  obtain ⟨p, a, f, h, hf⟩ := good_cells m d H g hg (seqNo t r) s
  haveI : Decidable (Hit (argAt m d main_arg0) (argAt m d main_arg1) (argAt m d main_arg3) (seqNo t r) s k) := Classical.propDecidable _
  rw [val82 H]
  rw [outL_at _ r s k a ((rows_at d t m g r s 3).trans ((hf 3 (by decide)).trans h.c3)) ((rows_at d t m g r s 4).trans ((hf 4 (by decide)).trans h.c4))]
  by_cases hb : a.getLsbD k.val = true
  · rw [if_pos hb, if_pos ((h.bits k).1 hb)]
  · rw [if_neg hb, if_neg fun hh => hb ((h.bits k).2 hh)]

theorem mlp_congr {r r' : Fin 256 → EReal} {dt dt' : EReal} {x6 x6' : FVec Ideal S257x256 .f32} {x7 x7' : FVec Ideal S256 .f32} {x8 x8' : FVec Ideal S256x32 .f32} {x9 x9' : FVec Ideal S32 .f32}
    (hr : ∀ e, r e = r' e) (hd : dt = dt') (h6 : x6 = x6') (h7 : ∀ i : Fin 256, x7 (Idealize.ShloMosaic.ix1 i) = x7' (Idealize.ShloMosaic.ix1 i)) (h8 : x8 = x8')
    (h9 : ∀ i : Fin 32, x9 (Idealize.ShloMosaic.ix1 i) = x9' (Idealize.ShloMosaic.ix1 i)) (k : Fin 32) : mlp r dt x6 x7 x8 x9 k = mlp r' dt' x6' x7' x8' x9' k := by
  obtain rfl : r = r' := funext hr
  subst hd h6 h8
  unfold mlp
  simp only [h7, h9]

theorem prob_at {x2 : IVec S32x2048 1} (H : Hyp (argAt m d main_arg0) (argAt m d main_arg1) x2 (argAt m d main_arg3)) (g : Vec Ideal S32x256x128 .f32) (hg : Good m d g)
    (r : Fin 8) (s : Fin 256) (k : Fin 32) :
    outP (stg (fun _ => W3 m d g) d 0 t) (stg (fun _ => W3 m d g) d 1 t) (stg (fun _ => W3 m d g) d 2 t) (stg (fun _ => W3 m d g) d 3 t) (stg (fun _ => W3 m d g) d 4 t)
        (stg (fun _ => W3 m d g) d 5 t) (stg (fun _ => W3 m d g) d 6 t) (ix3 r s k)
      = Cert.ReferenceIdeal.Read.val_main_v99 (F := Ideal) (argAt m d main_arg0) (argAt m d main_arg1) x2 (argAt m d main_arg3) (argAt m d main_arg4) (argAt m d main_arg5)
          (argAt m d main_arg6) (argAt m d main_arg7) (argAt m d main_arg8) (argAt m d main_arg9) (ix3 (seqNo t r) s k) := by
  obtain ⟨p, a, f, h, hf⟩ := good_cells m d H g hg (seqNo t r) s
  have q := fun c : Fin 128 => rows_at d t m g r s c
  have q0 := (q 0).trans ((hf 0 (by decide)).trans h.c0)
  have q1 := (q 1).trans ((hf 1 (by decide)).trans h.c1)
  have q2 := (q 2).trans ((hf 2 (by decide)).trans h.c2)
  rw [val99 H (seqNo t r) s p h.pos]
  rw [outP_at _ _ _ _ _ _ _ r s k ((argAt m d main_arg1) (posT (seqNo t r) p)) (H.ty _) q2]
  have e1 : stg (fun _ => W3 m d g) d 1 t = argAt m d main_arg4 := (stg_1 _ d t).trans (W3_arg m d g main_arg4 (by decide) (by decide) (by decide))
  have e3 : stg (fun _ => W3 m d g) d 3 t = argAt m d main_arg6 := (stg_3 _ d t).trans (W3_arg m d g main_arg6 (by decide) (by decide) (by decide))
  have e5 : stg (fun _ => W3 m d g) d 5 t = argAt m d main_arg8 := (stg_5 _ d t).trans (W3_arg m d g main_arg8 (by decide) (by decide) (by decide))
  have e2 : ∀ e : Fin 256, stg (fun _ => W3 m d g) d 2 t (ix2 (0 : Fin 1) e) = argAt m d main_arg5 (Idealize.ShloMosaic.ix1 e) := by
    intro e
    rw [stg_2, v15_eq]
    generalize argAt m d main_arg5 = v
    revert v
    intro (v : FVec Ideal S256 .f32)
    pointwise
  have e4 : ∀ e : Fin 256, stg (fun _ => W3 m d g) d 4 t (ix2 (0 : Fin 1) e) = argAt m d main_arg7 (Idealize.ShloMosaic.ix1 e) := by
    intro e
    rw [stg_4, v16_eq]
    generalize argAt m d main_arg7 = v
    revert v
    intro (v : FVec Ideal S256 .f32)
    pointwise
  have e6 : ∀ e : Fin 32, stg (fun _ => W3 m d g) d 6 t (ix2 (0 : Fin 1) e) = argAt m d main_arg9 (Idealize.ShloMosaic.ix1 e) := by
    intro e
    rw [stg_6, v17_eq]
    generalize argAt m d main_arg9 = v
    revert v
    intro (v : FVec Ideal S32 .f32)
    pointwise
  have ep := posT_val (seqNo t r) ⟨p, h.pos.1⟩
  refine mlp_congr (fun e => ?_) q1 e3 (fun i => ?_) e5 (fun i => ?_) k
  · rw [e1, e2, q0]
    unfold embT
    congr 1
    · exact congrArg (argAt m d main_arg4) (congrArg (fun q : Fin 32 => ix2 q e) (mk_congr (congrArg (fun i => (argAt m d main_arg1 i).toNat) ep) _ _))
    · congr 1
      exact congrArg (argAt m d main_arg0) ep
  · exact e4 i
  · exact e6 i

/-- The probabilities' array is any contents its blocks agree with, -/
theorem arr_7 (G : Vec Ideal S32x256x32 .f32)
    (h : ∀ (t : Fin cfg1.N) (r : Fin 8) (s : Fin 256) (k : Fin 32),
      outP (stg W d 0 t) (stg W d 1 t) (stg W d 2 t) (stg W d 3 t) (stg W d 4 t) (stg W d 5 t) (stg W d 6 t) (ix3 r s k) = G (ix3 (seqNo t r) s k)) :
    (dat W d).arrAt 7 cfg1.N = G := by
  refine (dat W d).arrAt_eq_of_covers 7 G (by decide +kernel) fun t _ y => ?_
  obtain ⟨r, s, k, rfl⟩ : ∃ (r : Fin 8) (s : Fin 256) (k : Fin 32), y = ix3 r s k := ⟨y 0, y 1, y 2, eq_ix3 y⟩
  exact (h t r s k).trans (congrArg G (emb_7 t r s k).symm)

/-- and so is the labels'. -/
theorem arr_8 (G : Vec Ideal S32x256x32 .f32)
    (h : ∀ (t : Fin cfg1.N) (r : Fin 8) (s : Fin 256) (k : Fin 32), outL (stg W d 0 t) (ix3 r s k) = G (ix3 (seqNo t r) s k)) :
    (dat W d).arrAt 8 cfg1.N = G := by
  refine (dat W d).arrAt_eq_of_covers 8 G (by decide +kernel) fun t _ y => ?_
  obtain ⟨r, s, k, rfl⟩ : ∃ (r : Fin 8) (s : Fin 256) (k : Fin 32), y = ix3 r s k := ⟨y 0, y 1, y 2, eq_ix3 y⟩
  exact (h t r s k).trans (congrArg G (emb_8 t r s k).symm)

theorem W4_7 (g : Vec Ideal S32x256x128 .f32) : W4 m d g (rf main_v18_0) = (dat (fun _ => W3 m d g) d).arrAt 7 cfg1.N :=
  Pipeline.afterRegion_arr (dat (fun _ => W3 m d g) d) (W3 m d g) winFacts1.arr_inj 7

theorem W4_8 (g : Vec Ideal S32x256x128 .f32) : W4 m d g (rf main_v18_1) = (dat (fun _ => W3 m d g) d).arrAt 8 cfg1.N :=
  Pipeline.afterRegion_arr (dat (fun _ => W3 m d g) d) (W3 m d g) winFacts1.arr_inj 8

/-- The first result. -/
theorem result_0 {x2 : IVec S32x2048 1} (H : Hyp (argAt m d main_arg0) (argAt m d main_arg1) x2 (argAt m d main_arg3)) (g : Vec Ideal S32x256x128 .f32) (hg : Good m d g) :
    W4 m d g (rf main_v18_0)
      = Cert.ReferenceIdeal.Read.val_main_v99 (F := Ideal) (argAt m d main_arg0) (argAt m d main_arg1) x2 (argAt m d main_arg3) (argAt m d main_arg4) (argAt m d main_arg5)
          (argAt m d main_arg6) (argAt m d main_arg7) (argAt m d main_arg8) (argAt m d main_arg9) := by
  exact (Pipeline.afterRegion_arr (pdats (fun _ => W3 m d g) 0 d) (W3 m d g) winFacts1.arr_inj 7).trans
    (arr_7 (fun _ => W3 m d g) d _ fun t r s k => prob_at d t m H g hg r s k)

/-- The second. -/
theorem result_1 {x2 : IVec S32x2048 1} (H : Hyp (argAt m d main_arg0) (argAt m d main_arg1) x2 (argAt m d main_arg3)) (g : Vec Ideal S32x256x128 .f32) (hg : Good m d g) :
    W4 m d g (rf main_v18_1)
      = Cert.ReferenceIdeal.Read.val_main_v82 (F := Ideal) (argAt m d main_arg0) (argAt m d main_arg1) x2 (argAt m d main_arg3) := by
  exact (Pipeline.afterRegion_arr (pdats (fun _ => W3 m d g) 0 d) (W3 m d g) winFacts1.arr_inj 8).trans
    (arr_8 (fun _ => W3 m d g) d _ fun t r s k => lab_at d t m H g hg r s k)

end Cert.Proof

end

end
-- ==== Proof.Algebraic.lean ====
/-
  The kernel's run and the reference's, brought to the same two results.
-/
module

public import proofs.«01_k».proof.Proof.Final
public import proofs.«01_k».proof.Proof.Gen.ReferenceIdeal.Read

@[expose] public section

set_option maxRecDepth 16384

noncomputable section

namespace Cert.Proof

open Cert.KernelIdeal Cert.KernelIdeal.Gen
open Idealize.ShloMosaic Idealize.SL.Sem

theorem kernel_run (m : (ℓ : Loc nD τ sig) → Buf (Elt Ideal) ℓ) (ρ : Dev nD → PrngReg)
    (H : ∀ d : Dev nD, Hyp (argAt m d main_arg0) (argAt m d main_arg1) (argAt m d main_arg2) (argAt m d main_arg3)) :
    θ_run (Cert.KernelIdeal.defs (F := Ideal)) (Cert.KernelIdeal.threads (F := Ideal)) ⟨m, fun _ => 0, ρ⟩ (fun r =>
      (∀ d : Dev nD, r.2.mem ((d.tc : Thread nD τ).loc main_v18_0)
            = Cert.ReferenceIdeal.Read.val_main_v99 (F := Ideal) (argAt m d main_arg0) (argAt m d main_arg1) (argAt m d main_arg2) (argAt m d main_arg3) (argAt m d main_arg4)
                (argAt m d main_arg5) (argAt m d main_arg6) (argAt m d main_arg7) (argAt m d main_arg8) (argAt m d main_arg9)
          ∧ r.2.mem ((d.tc : Thread nD τ).loc main_v18_1)
            = Cert.ReferenceIdeal.Read.val_main_v82 (F := Ideal) (argAt m d main_arg0) (argAt m d main_arg1) (argAt m d main_arg2) (argAt m d main_arg3))
        ∧ Kept m r.2.mem) :=
  (θ_run Cert.KernelIdeal.defs _ _).mono (fun r h => ⟨fun d => by
    obtain ⟨g, hg, hs⟩ := h.1 d
    exact ⟨(hs (rf main_v18_0) (Pipeline.devRef_mem_ucRefs rfl)).trans (result_0 d m (H d) g hg),
      (hs (rf main_v18_1) (Pipeline.devRef_mem_ucRefs rfl)).trans (result_1 d m (H d) g hg)⟩, kept_of m _ h.1⟩) (run_all m ρ)

/-- The reference's run, its results by the stages' names. -/
theorem reference_run (m' : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v99)
          = Cert.ReferenceIdeal.Read.val_main_v99 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_v82)
          = Cert.ReferenceIdeal.Read.val_main_v82 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2) ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3) ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7) ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8) ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run Cert.ReferenceIdeal.defs _ _).mono (fun _ h c => ⟨(h c).1.trans (Cert.ReferenceIdeal.Read.val_main_v99_eq (StableHlo.launchContents m' c)),
    (h c).2.1.trans (Cert.ReferenceIdeal.Read.val_main_v82_eq (StableHlo.launchContents m' c)), (h c).2.2⟩) (Cert.ReferenceIdeal.Value.run (F := Ideal) m' ρ)

theorem algebraic : Cert.algebraic_KernelIdeal_ReferenceIdeal_pre_events_in_order := by
  intro m g m' g' hpre hargs
  have H : ∀ d : Dev nD, Hyp (argAt m d main_arg0) (argAt m d main_arg1) (argAt m d main_arg2) (argAt m d main_arg3) := fun d => hyp_of_pre _ _ _ _ _ _ _ _ _ _ (hpre d)
  refine ⟨fun d => Cert.ReferenceIdeal.Read.val_main_v99 (F := Ideal) (argAt m d main_arg0) (argAt m d main_arg1) (argAt m d main_arg2) (argAt m d main_arg3) (argAt m d main_arg4)
      (argAt m d main_arg5) (argAt m d main_arg6) (argAt m d main_arg7) (argAt m d main_arg8) (argAt m d main_arg9),
    fun d => Cert.ReferenceIdeal.Read.val_main_v82 (F := Ideal) (argAt m d main_arg0) (argAt m d main_arg1) (argAt m d main_arg2) (argAt m d main_arg3), ?_, ?_⟩
  · exact (θ_run Cert.KernelIdeal.defs _ _).mono (fun _ h c => ⟨(h.1 c).1, (h.1 c).2, h.2 c⟩) (kernel_run m g H)
  · refine (θ_run Cert.ReferenceIdeal.defs _ _).mono (fun _ h c => ⟨(h c).1.trans ?_, (h c).2.1.trans ?_, (h c).2.2⟩) (reference_run m' g')
    all_goals
      obtain ⟨a0, a1, a2, a3, a4, a5, a6, a7, a8, a9⟩ := hargs c
    · rw [a0, a1, a2, a3, a4, a5, a6, a7, a8, a9]
    · rw [a0, a1, a2, a3]

end Cert.Proof

end

end
-- ==== Proof.lean ====
module

public import proofs.«01_k».proof.Defs
public import proofs.«01_k».proof.Proof.Frames
public import proofs.«01_k».proof.Proof.Algebraic
public import proofs.«01_k».proof.Proof.Gen.Pre_events_in_order
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The same frames under the precondition, which they do not use. -/
theorem frame_ideal_pre : Cert.quiescent_KernelIdeal_pre_events_in_order := fun m ρ _ => frame_ideal m ρ trivial
theorem frame_reference_pre : Cert.quiescent_ReferenceIdeal_pre_events_in_order := fun m ρ _ => frame_reference m ρ trivial

theorem claim : Cert.Claim :=
  ⟨Cert.Kernel.Gen.facts, Cert.KernelIdeal.Gen.facts, Cert.ReferenceIdeal.Gen.facts, Cert.Pre_events_in_order.Gen.facts,
    frame_kernel, frame_ideal, frame_ideal_pre, frame_reference, frame_reference_pre, trivial, algebraic⟩

end Cert.Proof

end
